-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x7F61B1E6#32 ⊤
  ∧ IdealRules.named_const.Statement Cert.KernelIdeal.κ "neg_big" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x3 : Shape := ⟨3, ![2, 8192, 3]⟩
abbrev S2x2048x3 : Shape := ⟨3, ![2, 2048, 3]⟩
abbrev S_ : Shape := ⟨0, ![]⟩

class Facts : Prop where
  bcast_S_S2x8192x3 : S_.BroadcastsInDim S2x8192x3 (![] : Fin 0 → Fin S2x8192x3.rank)
  bcast_S_S2x2048x3 : S_.BroadcastsInDim S2x2048x3 (![] : Fin 0 → Fin S2x2048x3.rank)

variable [Facts]

def fn {F : FTy → Type} [FloatOps F] (main_arg0 : FVec F S2x8192x3 .f32) (main_arg1 : FVec F S2x2048x3 .f32) : IVec S2x8192x3 1 × IVec S2x2048x3 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_v3 : FVec F S2x2048x3 .f32 := Host.absf main_arg1
  let main_cst_0 : FVec F S_ .f32 := constant S_ .f32 0x7F800000#32
  let main_v4 : FVec F S2x2048x3 .f32 := broadcastInDim S2x2048x3 ![] bcast_S_S2x2048x3 main_cst_0
  let main_v5 : IVec S2x2048x3 1 := cmpf .olt main_v3 main_v4
  (main_v2, main_v5)
-- ==== Kernel.lean ====
abbrev S2x8192x3 : Shape := ⟨3, ![2, 8192, 3]⟩
abbrev S2x2048x3 : Shape := ⟨3, ![2, 2048, 3]⟩
abbrev S2x3x8192 : Shape := ⟨3, ![2, 3, 8192]⟩
abbrev S2x64x128x3 : Shape := ⟨4, ![2, 64, 128, 3]⟩
abbrev S2x64x3x128 : Shape := ⟨4, ![2, 64, 3, 128]⟩
abbrev S2x64x384 : Shape := ⟨3, ![2, 64, 384]⟩
abbrev S_ : Shape := ⟨0, ![]⟩
abbrev S1x512x3 : Shape := ⟨3, ![1, 512, 3]⟩
abbrev S1x3x8192 : Shape := ⟨3, ![1, 3, 8192]⟩
abbrev S1x64x384 : Shape := ⟨3, ![1, 64, 384]⟩
abbrev S512x3 : Shape := ⟨2, ![512, 3]⟩
abbrev S512x1 : Shape := ⟨2, ![512, 1]⟩
abbrev S512x2048 : Shape := ⟨2, ![512, 2048]⟩
abbrev S1x3x2048 : Shape := ⟨3, ![1, 3, 2048]⟩
abbrev S3x2048 : Shape := ⟨2, ![3, 2048]⟩
abbrev S1x2048 : Shape := ⟨2, ![1, 2048]⟩
abbrev S512 : Shape := ⟨1, ![512]⟩
abbrev S64x384 : Shape := ⟨2, ![64, 384]⟩
abbrev S512x64 : Shape := ⟨2, ![512, 64]⟩
abbrev S512x384 : Shape := ⟨2, ![512, 384]⟩
abbrev S512x128 : Shape := ⟨2, ![512, 128]⟩
abbrev S2x3x2048 : Shape := ⟨3, ![2, 3, 2048]⟩
abbrev S2x16x128x3 : Shape := ⟨4, ![2, 16, 128, 3]⟩
abbrev S2x16x3x128 : Shape := ⟨4, ![2, 16, 3, 128]⟩
abbrev S2x16x384 : Shape := ⟨3, ![2, 16, 384]⟩
abbrev S1x1 : Shape := ⟨2, ![1, 1]⟩
abbrev S1x2048x3 : Shape := ⟨3, ![1, 2048, 3]⟩
abbrev S1x16x384 : Shape := ⟨3, ![1, 16, 384]⟩
abbrev S1x1024x3 : Shape := ⟨3, ![1, 1024, 3]⟩
abbrev S1024x3 : Shape := ⟨2, ![1024, 3]⟩
abbrev S1024x1 : Shape := ⟨2, ![1024, 1]⟩
abbrev S1024x2048 : Shape := ⟨2, ![1024, 2048]⟩
abbrev S16x384 : Shape := ⟨2, ![16, 384]⟩
abbrev S1024x128 : Shape := ⟨2, ![1024, 128]⟩
abbrev S1024 : Shape := ⟨1, ![1024]⟩
abbrev S1024x16 : Shape := ⟨2, ![1024, 16]⟩
abbrev S1024x384 : Shape := ⟨2, ![1024, 384]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 138
  | .vmem => 32
  | .smem => 1
  | _ => 0

abbrev hbmTy0_0 (i : Nat) : BufTy := match i % 128 with
  | 0 => ⟨S2x8192x3, .f32⟩
  | 1 => ⟨S2x2048x3, .f32⟩
  | 2 => ⟨S2x3x8192, .f32⟩
  | 3 => ⟨S2x64x128x3, .f32⟩
  | 4 => ⟨S2x64x3x128, .f32⟩
  | 5 => ⟨S2x64x384, .f32⟩
  | 6 => ⟨S2x64x384, .bf16⟩
  | 7 => ⟨S2x64x384, .f32⟩
  | 8 => ⟨S_, .f32⟩
  | 9 => ⟨S2x64x384, .f32⟩
  | 10 => ⟨S2x64x384, .f32⟩
  | 11 => ⟨S2x64x384, .bf16⟩
  | 12 => ⟨S2x64x384, .f32⟩
  | 13 => ⟨S_, .f32⟩
  | 14 => ⟨S2x64x384, .f32⟩
  | 15 => ⟨S2x64x384, .f32⟩
  | 16 => ⟨S_, .f32⟩
  | 17 => ⟨S2x64x384, .f32⟩
  | 18 => ⟨S2x64x384, .f32⟩
  | 19 => ⟨S2x64x384, .f32⟩
  | 20 => ⟨S2x64x384, .f32⟩
  | 21 => ⟨S2x64x384, .i1⟩
  | 22 => ⟨S2x64x384, .f32⟩
  | 23 => ⟨S2x64x384, .bf16⟩
  | 24 => ⟨S2x64x384, .f32⟩
  | 25 => ⟨S2x64x384, .bf16⟩
  | 26 => ⟨S2x64x384, .f32⟩
  | 27 => ⟨S_, .f32⟩
  | 28 => ⟨S2x64x384, .f32⟩
  | 29 => ⟨S2x64x384, .f32⟩
  | 30 => ⟨S2x64x384, .bf16⟩
  | 31 => ⟨S2x64x384, .f32⟩
  | 32 => ⟨S_, .f32⟩
  | 33 => ⟨S2x64x384, .f32⟩
  | 34 => ⟨S2x64x384, .f32⟩
  | 35 => ⟨S_, .f32⟩
  | 36 => ⟨S2x64x384, .f32⟩
  | 37 => ⟨S2x64x384, .f32⟩
  | 38 => ⟨S2x64x384, .f32⟩
  | 39 => ⟨S2x64x384, .f32⟩
  | 40 => ⟨S2x64x384, .i1⟩
  | 41 => ⟨S2x64x384, .f32⟩
  | 42 => ⟨S2x64x384, .bf16⟩
  | 43 => ⟨S2x64x384, .f32⟩
  | 44 => ⟨S2x64x384, .bf16⟩
  | 45 => ⟨S2x2048x3, .f32⟩
  | 46 => ⟨S2x3x2048, .f32⟩
  | 47 => ⟨S2x3x2048, .f32⟩
  | 48 => ⟨S2x16x128x3, .f32⟩
  | 49 => ⟨S2x16x3x128, .f32⟩
  | 50 => ⟨S2x16x384, .f32⟩
  | 51 => ⟨S2x16x384, .bf16⟩
  | 52 => ⟨S2x16x384, .f32⟩
  | 53 => ⟨S_, .f32⟩
  | 54 => ⟨S2x16x384, .f32⟩
  | 55 => ⟨S2x16x384, .f32⟩
  | 56 => ⟨S2x16x384, .bf16⟩
  | 57 => ⟨S2x16x384, .f32⟩
  | 58 => ⟨S_, .f32⟩
  | 59 => ⟨S2x16x384, .f32⟩
  | 60 => ⟨S2x16x384, .f32⟩
  | 61 => ⟨S_, .f32⟩
  | 62 => ⟨S2x16x384, .f32⟩
  | 63 => ⟨S2x16x384, .f32⟩
  | 64 => ⟨S2x16x384, .f32⟩
  | 65 => ⟨S2x16x384, .f32⟩
  | 66 => ⟨S2x16x384, .i1⟩
  | 67 => ⟨S2x16x384, .f32⟩
  | 68 => ⟨S2x16x384, .bf16⟩
  | 69 => ⟨S2x16x384, .f32⟩
  | 70 => ⟨S2x16x384, .bf16⟩
  | 71 => ⟨S2x16x384, .f32⟩
  | 72 => ⟨S_, .f32⟩
  | 73 => ⟨S2x16x384, .f32⟩
  | 74 => ⟨S2x16x384, .f32⟩
  | 75 => ⟨S2x16x384, .bf16⟩
  | 76 => ⟨S2x16x384, .f32⟩
  | 77 => ⟨S_, .f32⟩
  | 78 => ⟨S2x16x384, .f32⟩
  | 79 => ⟨S2x16x384, .f32⟩
  | 80 => ⟨S_, .f32⟩
  | 81 => ⟨S2x16x384, .f32⟩
  | 82 => ⟨S2x16x384, .f32⟩
  | 83 => ⟨S2x16x384, .f32⟩
  | 84 => ⟨S2x16x384, .f32⟩
  | 85 => ⟨S2x16x384, .i1⟩
  | 86 => ⟨S2x16x384, .f32⟩
  | 87 => ⟨S2x16x384, .bf16⟩
  | 88 => ⟨S2x16x384, .f32⟩
  | 89 => ⟨S2x16x384, .bf16⟩
  | 90 => ⟨S2x16x128x3, .f32⟩
  | 91 => ⟨S2x16x3x128, .f32⟩
  | 92 => ⟨S2x16x384, .f32⟩
  | 93 => ⟨S2x16x384, .bf16⟩
  | 94 => ⟨S2x16x384, .f32⟩
  | 95 => ⟨S_, .f32⟩
  | 96 => ⟨S2x16x384, .f32⟩
  | 97 => ⟨S2x16x384, .f32⟩
  | 98 => ⟨S2x16x384, .bf16⟩
  | 99 => ⟨S2x16x384, .f32⟩
  | 100 => ⟨S_, .f32⟩
  | 101 => ⟨S2x16x384, .f32⟩
  | 102 => ⟨S2x16x384, .f32⟩
  | 103 => ⟨S_, .f32⟩
  | 104 => ⟨S2x16x384, .f32⟩
  | 105 => ⟨S2x16x384, .f32⟩
  | 106 => ⟨S2x16x384, .f32⟩
  | 107 => ⟨S2x16x384, .f32⟩
  | 108 => ⟨S2x16x384, .i1⟩
  | 109 => ⟨S2x16x384, .f32⟩
  | 110 => ⟨S2x16x384, .bf16⟩
  | 111 => ⟨S2x16x384, .f32⟩
  | 112 => ⟨S2x16x384, .bf16⟩
  | 113 => ⟨S2x16x384, .f32⟩
  | 114 => ⟨S_, .f32⟩
  | 115 => ⟨S2x16x384, .f32⟩
  | 116 => ⟨S2x16x384, .f32⟩
  | 117 => ⟨S2x16x384, .bf16⟩
  | 118 => ⟨S2x16x384, .f32⟩
  | 119 => ⟨S_, .f32⟩
  | 120 => ⟨S2x16x384, .f32⟩
  | 121 => ⟨S2x16x384, .f32⟩
  | 122 => ⟨S_, .f32⟩
  | 123 => ⟨S2x16x384, .f32⟩
  | 124 => ⟨S2x16x384, .f32⟩
  | 125 => ⟨S2x16x384, .f32⟩
  | 126 => ⟨S2x16x384, .f32⟩
  | 127 => ⟨S2x16x384, .i1⟩
  | _ => ⟨S2x8192x3, .f32⟩

abbrev hbmTy0_1 (i : Nat) : BufTy := match i % 128 with
  | 0 => ⟨S2x16x384, .f32⟩
  | 1 => ⟨S2x16x384, .bf16⟩
  | 2 => ⟨S2x16x384, .f32⟩
  | 3 => ⟨S2x16x384, .bf16⟩
  | 4 => ⟨S1x1, .f32⟩
  | 5 => ⟨S_, .f32⟩
  | 6 => ⟨S_, .f32⟩
  | 7 => ⟨S_, .f32⟩
  | 8 => ⟨S_, .f32⟩
  | 9 => ⟨S_, .f32⟩
  | _ => ⟨S2x8192x3, .f32⟩

abbrev hbmTy (i : Nat) : BufTy := match i / 128 with
  | 0 => hbmTy0_0 i
  | 1 => hbmTy0_1 i
  | _ => ⟨S2x8192x3, .f32⟩

abbrev bufTy : (tb : Table) → Fin (tcTables nBuf tb) → BufTy
  | .hbm, ⟨i, _⟩ => hbmTy i
  | .local _ .vmem, ⟨0, _⟩ => ⟨S1x512x3, .f32⟩
  | .local _ .vmem, ⟨1, _⟩ => ⟨S1x512x3, .f32⟩
  | .local _ .vmem, ⟨2, _⟩ => ⟨S1x3x8192, .f32⟩
  | .local _ .vmem, ⟨3, _⟩ => ⟨S1x3x8192, .f32⟩
  | .local _ .vmem, ⟨4, _⟩ => ⟨S1x64x384, .bf16⟩
  | .local _ .vmem, ⟨5, _⟩ => ⟨S1x64x384, .bf16⟩
  | .local _ .vmem, ⟨6, _⟩ => ⟨S1x64x384, .bf16⟩
  | .local _ .vmem, ⟨7, _⟩ => ⟨S1x64x384, .bf16⟩
  | .local _ .vmem, ⟨8, _⟩ => ⟨S1x64x384, .bf16⟩
  | .local _ .vmem, ⟨9, _⟩ => ⟨S1x64x384, .bf16⟩
  | .local _ .vmem, ⟨10, _⟩ => ⟨S1x512x3, .f32⟩
  | .local _ .vmem, ⟨11, _⟩ => ⟨S1x512x3, .f32⟩
  | .local _ .vmem, ⟨12, _⟩ => ⟨S1x2048x3, .f32⟩
  | .local _ .vmem, ⟨13, _⟩ => ⟨S1x2048x3, .f32⟩
  | .local _ .vmem, ⟨14, _⟩ => ⟨S1x3x2048, .f32⟩
  | .local _ .vmem, ⟨15, _⟩ => ⟨S1x3x2048, .f32⟩
  | .local _ .vmem, ⟨16, _⟩ => ⟨S1x16x384, .bf16⟩
  | .local _ .vmem, ⟨17, _⟩ => ⟨S1x16x384, .bf16⟩
  | .local _ .vmem, ⟨18, _⟩ => ⟨S1x16x384, .bf16⟩
  | .local _ .vmem, ⟨19, _⟩ => ⟨S1x16x384, .bf16⟩
  | .local _ .vmem, ⟨20, _⟩ => ⟨S1x16x384, .bf16⟩
  | .local _ .vmem, ⟨21, _⟩ => ⟨S1x16x384, .bf16⟩
  | .local _ .vmem, ⟨22, _⟩ => ⟨S1x2048x3, .f32⟩
  | .local _ .vmem, ⟨23, _⟩ => ⟨S1x2048x3, .f32⟩
  | .local _ .vmem, ⟨24, _⟩ => ⟨S1x3x2048, .f32⟩
  | .local _ .vmem, ⟨25, _⟩ => ⟨S1x3x2048, .f32⟩
  | .local _ .vmem, ⟨26, _⟩ => ⟨S1x16x384, .bf16⟩
  | .local _ .vmem, ⟨27, _⟩ => ⟨S1x16x384, .bf16⟩
  | .local _ .vmem, ⟨28, _⟩ => ⟨S1x16x384, .bf16⟩
  | .local _ .vmem, ⟨29, _⟩ => ⟨S1x16x384, .bf16⟩
  | .local _ .vmem, ⟨30, _⟩ => ⟨S1x16x384, .bf16⟩
  | .local _ .vmem, ⟨31, _⟩ => ⟨S1x16x384, .bf16⟩
  | .local _ .smem, ⟨0, _⟩ => ⟨S1x1, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_6 : Ref sig .tc := ⟨.hbm, 58, rfl⟩
abbrev main_v49 : Ref sig .tc := ⟨.hbm, 59, rfl⟩
abbrev main_v50 : Ref sig .tc := ⟨.hbm, 60, rfl⟩
abbrev main_cst_7 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_8 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_9 : Ref sig .tc := ⟨.hbm, 77, rfl⟩
abbrev main_v65 : Ref sig .tc := ⟨.hbm, 78, rfl⟩
abbrev main_v66 : Ref sig .tc := ⟨.hbm, 79, rfl⟩
abbrev main_cst_10 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_11 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_12 : Ref sig .tc := ⟨.hbm, 100, rfl⟩
abbrev main_v85 : Ref sig .tc := ⟨.hbm, 101, rfl⟩
abbrev main_v86 : Ref sig .tc := ⟨.hbm, 102, rfl⟩
abbrev main_cst_13 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_14 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_15 : Ref sig .tc := ⟨.hbm, 119, rfl⟩
abbrev main_v101 : Ref sig .tc := ⟨.hbm, 120, rfl⟩
abbrev main_v102 : Ref sig .tc := ⟨.hbm, 121, rfl⟩
abbrev main_cst_16 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_17 : Ref sig .tc := ⟨.hbm, 134, rfl⟩
abbrev main_v114 : Ref sig .tc := ⟨.hbm, 135, rfl⟩
abbrev main_cst_18 : Ref sig .tc := ⟨.hbm, 136, rfl⟩
abbrev main_v115 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 2], ![false, false]⟩

def k1_off1 (i : grid1.Coords) : Fin 3 → Nat :=
  let c0_2 : Index := 0#32
  let arg1 : BitVec 32 := BitVec.ofNat 32 (i 1).val
  let c1024_i32 : BitVec 32 := 1024#32
  let v2 : BitVec 32 := Scalar.muli arg1 c1024_i32
  let v3 : Index := Scalar.indexCast v2
  let c0_3 : Index := 0#32
  ![0, v3.toNat, 0]
@[reducible] def k1_t1_loop : Scf.Loop 32 :=
  let c0_i32 : BitVec 32 := 0#32
  let c16_i32 : BitVec 32 := 16#32
  let v73 : BitVec 32 := Scalar.addi c0_i32 c16_i32
  let c1_i32 : BitVec 32 := 1#32
  ⟨c0_i32, v73, c1_i32⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x3x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x16x384 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2048x3 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x3x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x16x384 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x16x384 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x16x384 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 1 → Memref sig .tc .smem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]
-- ==== KernelIdeal.lean ====
variable {F : FTy → Type} [FloatOps F] [Named F]
def κ : String → Option EReal := fun
  | "big" => some ⊤
  | "neg_big" => some ⊥
  | _ => none
-- ==== ReferenceIdeal.lean ====
abbrev S2x8192x3 : Shape := ⟨3, ![2, 8192, 3]⟩
abbrev S2x2048x3 : Shape := ⟨3, ![2, 2048, 3]⟩
abbrev S_ : Shape := ⟨0, ![]⟩
abbrev S2x2048 : Shape := ⟨2, ![2, 2048]⟩
abbrev S2x8192 : Shape := ⟨2, ![2, 8192]⟩
abbrev S2x3x8192 : Shape := ⟨3, ![2, 3, 8192]⟩
abbrev S2x2048x8192 : Shape := ⟨3, ![2, 2048, 8192]⟩
abbrev S2x2048x1 : Shape := ⟨3, ![2, 2048, 1]⟩
abbrev S2x1x8192 : Shape := ⟨3, ![2, 1, 8192]⟩
abbrev S2x3x2048 : Shape := ⟨3, ![2, 3, 2048]⟩
abbrev S2x2048x2048 : Shape := ⟨3, ![2, 2048, 2048]⟩
abbrev S2x1x2048 : Shape := ⟨3, ![2, 1, 2048]⟩
abbrev S2x2048x16 : Shape := ⟨3, ![2, 2048, 16]⟩
abbrev S2x2048x16x1 : Shape := ⟨4, ![2, 2048, 16, 1]⟩
abbrev S2x2048x16x3 : Shape := ⟨4, ![2, 2048, 16, 3]⟩
abbrev S2x2048x1x3 : Shape := ⟨4, ![2, 2048, 1, 3]⟩
abbrev S2x2048x48 : Shape := ⟨3, ![2, 2048, 48]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x2048x3, .f32⟩
  | .hbm, ⟨2, _⟩ => ⟨S2x2048x3, .f32⟩
  | .hbm, ⟨3, _⟩ => ⟨S_, .f32⟩
  | .hbm, ⟨4, _⟩ => ⟨S2x2048, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x3x8192, .f32⟩
  | .hbm, ⟨9, _⟩ => ⟨S2x2048x8192, .f32⟩
  | .hbm, ⟨10, _⟩ => ⟨S2x2048x1, .f32⟩
  | .hbm, ⟨11, _⟩ => ⟨S2x1x8192, .f32⟩
  | .hbm, ⟨12, _⟩ => ⟨S2x2048x8192, .f32⟩
  | .hbm, ⟨13, _⟩ => ⟨S2x2048x8192, .f32⟩
  | .hbm, ⟨14, _⟩ => ⟨S2x2048x8192, .f32⟩
  | .hbm, ⟨15, _⟩ => ⟨S_, .f32⟩
  | .hbm, ⟨16, _⟩ => ⟨S2x2048x8192, .f32⟩
  | .hbm, ⟨17, _⟩ => ⟨S2x2048x8192, .f32⟩
  | .hbm, ⟨18, _⟩ => ⟨S2x2048x8192, .f32⟩
  | .hbm, ⟨19, _⟩ => ⟨S2x2048x8192, .i32⟩
  | .hbm, ⟨20, _⟩ => ⟨S_, .f32⟩
  | .hbm, ⟨21, _⟩ => ⟨S_, .i32⟩
  | .hbm, ⟨22, _⟩ => ⟨S2x2048, .f32⟩
  | .hbm, ⟨23, _⟩ => ⟨S2x2048, .i32⟩
  | .hbm, ⟨24, _⟩ => ⟨S_, .i32⟩
  | .hbm, ⟨25, _⟩ => ⟨S2x2048, .i32⟩
  | .hbm, ⟨26, _⟩ => ⟨S2x2048, .i1⟩
  | .hbm, ⟨27, _⟩ => ⟨S_, .i32⟩
  | .hbm, ⟨28, _⟩ => ⟨S2x2048, .i32⟩
  | .hbm, ⟨29, _⟩ => ⟨S2x2048, .i32⟩
  | .hbm, ⟨30, _⟩ => ⟨S2x2048, .i32⟩
  | .hbm, ⟨31, _⟩ => ⟨S2x2048x1, .i32⟩
  | .hbm, ⟨32, _⟩ => ⟨S2x2048x3, .f32⟩
  | .hbm, ⟨33, _⟩ => ⟨S2x3x2048, .f32⟩
  | .hbm, ⟨34, _⟩ => ⟨S2x2048x2048, .f32⟩
  | .hbm, ⟨35, _⟩ => ⟨S2x2048x3, .f32⟩
  | .hbm, ⟨36, _⟩ => ⟨S_, .f32⟩
  | .hbm, ⟨37, _⟩ => ⟨S2x2048, .f32⟩
  | .hbm, ⟨38, _⟩ => ⟨S_, .f32⟩
  | .hbm, ⟨39, _⟩ => ⟨S2x2048x2048, .f32⟩
  | .hbm, ⟨40, _⟩ => ⟨S2x2048x2048, .f32⟩
  | .hbm, ⟨41, _⟩ => ⟨S2x2048x1, .f32⟩
  | .hbm, ⟨42, _⟩ => ⟨S2x2048x2048, .f32⟩
  | .hbm, ⟨43, _⟩ => ⟨S2x2048x2048, .f32⟩
  | .hbm, ⟨44, _⟩ => ⟨S2x1x2048, .f32⟩
  | .hbm, ⟨45, _⟩ => ⟨S2x2048x2048, .f32⟩
  | .hbm, ⟨46, _⟩ => ⟨S2x2048x2048, .f32⟩
  | .hbm, ⟨47, _⟩ => ⟨S2x2048x16, .f32⟩
  | .hbm, ⟨48, _⟩ => ⟨S2x2048x16, .i32⟩
  | .hbm, ⟨49, _⟩ => ⟨S_, .i32⟩
  | .hbm, ⟨50, _⟩ => ⟨S2x2048x16, .i32⟩
  | .hbm, ⟨51, _⟩ => ⟨S2x2048x16, .i1⟩
  | .hbm, ⟨52, _⟩ => ⟨S_, .i32⟩
  | .hbm, ⟨53, _⟩ => ⟨S2x2048x16, .i32⟩
  | .hbm, ⟨54, _⟩ => ⟨S2x2048x16, .i32⟩
  | .hbm, ⟨55, _⟩ => ⟨S2x2048x16, .i32⟩
  | .hbm, ⟨56, _⟩ => ⟨S2x2048x16x1, .i32⟩
  | .hbm, ⟨57, _⟩ => ⟨S2x2048x16x3, .f32⟩
  | .hbm, ⟨58, _⟩ => ⟨S2x2048x1x3, .f32⟩
  | .hbm, ⟨59, _⟩ => ⟨S2x2048x16x3, .f32⟩
  | .hbm, ⟨60, _⟩ => ⟨S2x2048x16x3, .f32⟩
  | .hbm, ⟨61, _⟩ => ⟨S2x2048x48, .f32⟩
  | .hbm, ⟨62, _⟩ => ⟨S2x3x2048, .f32⟩
  | .hbm, ⟨63, _⟩ => ⟨S2x2048x2048, .f32⟩
  | .hbm, ⟨64, _⟩ => ⟨S2x2048x3, .f32⟩
  | .hbm, ⟨65, _⟩ => ⟨S_, .f32⟩
  | .hbm, ⟨66, _⟩ => ⟨S2x2048, .f32⟩
  | .hbm, ⟨67, _⟩ => ⟨S_, .f32⟩
  | .hbm, ⟨68, _⟩ => ⟨S2x2048x2048, .f32⟩
  | .hbm, ⟨69, _⟩ => ⟨S2x2048x2048, .f32⟩
  | .hbm, ⟨70, _⟩ => ⟨S2x2048x1, .f32⟩
  | .hbm, ⟨71, _⟩ => ⟨S2x2048x2048, .f32⟩
  | .hbm, ⟨72, _⟩ => ⟨S2x2048x2048, .f32⟩
  | .hbm, ⟨73, _⟩ => ⟨S2x1x2048, .f32⟩
  | .hbm, ⟨74, _⟩ => ⟨S2x2048x2048, .f32⟩
  | .hbm, ⟨75, _⟩ => ⟨S2x2048x2048, .f32⟩
  | .hbm, ⟨76, _⟩ => ⟨S2x2048x16, .f32⟩
  | .hbm, ⟨77, _⟩ => ⟨S2x2048x16, .i32⟩
  | .hbm, ⟨78, _⟩ => ⟨S_, .i32⟩
  | .hbm, ⟨79, _⟩ => ⟨S2x2048x16, .i32⟩
  | .hbm, ⟨80, _⟩ => ⟨S2x2048x16, .i1⟩
  | .hbm, ⟨81, _⟩ => ⟨S_, .i32⟩
  | .hbm, ⟨82, _⟩ => ⟨S2x2048x16, .i32⟩
  | .hbm, ⟨83, _⟩ => ⟨S2x2048x16, .i32⟩
  | .hbm, ⟨84, _⟩ => ⟨S2x2048x16, .i32⟩
  | .hbm, ⟨85, _⟩ => ⟨S2x2048x16x1, .i32⟩
  | .hbm, ⟨86, _⟩ => ⟨S2x2048x16x3, .f32⟩
  | .hbm, ⟨87, _⟩ => ⟨S2x2048x1x3, .f32⟩
  | .hbm, ⟨88, _⟩ => ⟨S2x2048x16x3, .f32⟩
  | .hbm, ⟨89, _⟩ => ⟨S2x2048x16x3, .f32⟩
  | .hbm, ⟨90, _⟩ => ⟨S2x2048x48, .f32⟩
  | .hbm, ⟨91, _⟩ => ⟨S2x2048x48, .f32⟩
  | .hbm, ⟨92, _⟩ => ⟨S2x2048x48, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_values : Ref sig .tc := ⟨.hbm, 47, rfl⟩
abbrev main_indices : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_values_9 : Ref sig .tc := ⟨.hbm, 76, rfl⟩
abbrev main_indices_10 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Proof.KernelIdealBody.lean ====
/- The two kernel bodies: what each leaves in its output block, and the triples that say so. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-- The rectangles the first body reads and writes. -/
abbrev rp : Rect S1x512x3 := Rect.unit (s := S1x512x3) ![0, 0, 0] S1x512x3.size inb_S1x512x3_S1x512x3_0_0_0
abbrev rc0 : Rect S1x3x8192 := Rect.unit (s := S1x3x8192) ![0, 0, 0] S1x3x2048.size inb_S1x3x8192_S1x3x2048_0_0_0
abbrev rc1 : Rect S1x3x8192 := Rect.unit (s := S1x3x8192) ![0, 0, 2048] S1x3x2048.size inb_S1x3x8192_S1x3x2048_0_0_2048
abbrev rc2 : Rect S1x3x8192 := Rect.unit (s := S1x3x8192) ![0, 0, 4096] S1x3x2048.size inb_S1x3x8192_S1x3x2048_0_0_4096
abbrev rc3 : Rect S1x3x8192 := Rect.unit (s := S1x3x8192) ![0, 0, 6144] S1x3x2048.size inb_S1x3x8192_S1x3x2048_0_0_6144
abbrev rg : Rect S1x64x384 := Rect.unit (s := S1x64x384) ![0, 0, 0] S1x64x384.size inb_S1x64x384_S1x64x384_0_0_0

/-- The lane numbers of a chunk of 2048 completed points. -/
def lanes0 : IVec S512x2048 32 := iota .tc S512x2048 32 [1] iota_S512x2048_d1_w32

/-- The index of the nearest completed point of each of the 512 rows, as the first body computes it from
    its block of partial points `p` and the four chunks of the completed points. -/
def near (p : Vec F S1x512x3 .f32) (q0 q1 q2 q3 : Vec F S1x3x2048 .f32) : IVec S512x1 32 :=
  k0_pay16 (k0_pay2 p) (k0_pay3 p) lanes0
    (k0_pay13 (k0_pay2 p) (k0_pay3 p) (k0_pay8 p q0) q1)
    (k0_pay14 (k0_pay2 p) (k0_pay3 p) lanes0 (k0_pay8 p q0) (k0_pay9 p q0) q1)
    (k0_pay15 (k0_pay2 p) (k0_pay3 p) q2) q3

/-- What the first body stores: the nearest completed points, taken out of the three grouped tables. -/
def matched0 (p : Vec F S1x512x3 .f32) (q0 q1 q2 q3 : Vec F S1x3x2048 .f32) (ga gb gc : Vec F S1x64x384 .bf16) :
    Vec F S1x512x3 .f32 :=
  k0_pay1 (k0_pay18 (near p q0 q1 q2 q3) (k0_pay17 ga) gb gc)

/-- The first body's output block from its input blocks. -/
def out0 (x0 : Vec F S1x512x3 .f32) (x1 : Vec F S1x3x8192 .f32) (x2 : Vec F S1x64x384 .bf16) (x3 : Vec F S1x64x384 .bf16)
    (x4 : Vec F S1x64x384 .bf16) : Vec F S1x512x3 .f32 :=
  matched0 (View.ld x0 rp) (View.ld x1 rc0) (View.ld x1 rc1) (View.ld x1 rc2) (View.ld x1 rc3)
    (View.ld x2 rg) (View.ld x3 rg) (View.ld x4 rg)

/-- The rectangles the second body reads: the rows of its block of points, a whole transposed table, a whole
    grouped table, the running sum. -/
abbrev rrow (i : grid1.Coords) : Rect S1x2048x3 := Rect.unit (s := S1x2048x3) (k1_off1 i) S1x1024x3.size (k1_off1_inb i)
abbrev rt : Rect S1x3x2048 := Rect.unit (s := S1x3x2048) ![0, 0, 0] S1x3x2048.size inb_S1x3x2048_S1x3x2048_0_0_0
abbrev rh : Rect S1x16x384 := Rect.unit (s := S1x16x384) ![0, 0, 0] S1x16x384.size inb_S1x16x384_S1x16x384_0_0_0
abbrev rs : Rect S1x1 := Rect.unit (s := S1x1) ![0, 0] S1x1.size inb_S1x1_S1x1_0_0

/-- The lane numbers of the 2048 candidates and of one group of 128. -/
def lanes1 : IVec S1024x2048 32 := iota .tc S1024x2048 32 [1] iota_S1024x2048_d1_w32
def lanes2 : IVec S1024x128 32 := iota .tc S1024x128 32 [1] iota_S1024x128_d1_w32

/-- What the loop of the second body carries: the negated distances still in play on either side, and the
    squares summed so far. -/
abbrev Carry (F : FTy → Type) : Type := FVec F S1024x2048 .f32 × FVec F S1024x2048 .f32 × FVec F S1024x1 .f32

section Trip
variable (v5 : FVec F S1024x3 .f32) (v30 v32 v34 : FVec F S16x384 .bf16) (v39 : Vec F S1x1024x3 .f32)
  (v64 v66 v68 : Vec F S1x16x384 .bf16) (v70 : IVec S1024x2048 32) (v71 : IVec S1024x128 32)

/-- The first side's pick of a trip: the index of each row's largest negated distance, -/
def pick0 (a : FVec F S1024x2048 .f32) : IVec S1024x1 32 :=
  k1_pay23 v71 a (k1_pay20 a) (k1_pay21 a) (k1_pay22 a)
/-- the group of 128 it lies in, -/
def grp0 (a : FVec F S1024x2048 .f32) : IVec S1024x1 32 :=
  k1_pay24 v71 a (k1_pay20 a) (k1_pay21 a) (k1_pay22 a)
/-- and the picked point relative to the row's own. -/
def rel0 (a : FVec F S1024x2048 .f32) : FVec F S1024x3 .f32 :=
  k1_pay25 v5 v30 v32 v34 (pick0 v71 a) (grp0 v71 a) 127#32

/-- The second side's running maxima part way through the sixteen groups. -/
def half1 (b : FVec F S1024x2048 .f32) : IVec S1024x128 32 :=
  k1_pay51 b (k1_pay29 b) (k1_pay30 b) (k1_pay31 b) (k1_pay32 b) 1#32
def half2 (b : FVec F S1024x2048 .f32) : FVec F S1024x128 .f32 := k1_pay52 b (k1_pay30 b) (k1_pay31 b)
def half3 (b : FVec F S1024x2048 .f32) : FVec F S1024x128 .f32 := k1_pay53 b
def half4 (b : FVec F S1024x2048 .f32) : IVec S1024x128 1 := k1_pay54 b (k1_pay30 b) (k1_pay31 b)
/-- The second side's pick of a trip, -/
def pick1 (b : FVec F S1024x2048 .f32) : IVec S1024x1 32 :=
  k1_pay55 v71 b (half1 b) (half2 b) (half3 b) (half4 b) 11#32
/-- and the squares summed so far with those of the difference of the two picked points, each relative to its own. -/
def gain (s : Carry F) : FVec F S1024x1 .f32 :=
  k1_pay74 v39 s.2.2 (rel0 v5 v30 v32 v34 v71 s.1)
    (k1_pay56 v71 s.2.1 (half1 s.2.1) (half2 s.2.1) (half3 s.2.1) (half4 s.2.1) 11#32)
    (k1_pay58 (k1_pay69 v64) v71 s.2.1 (half1 s.2.1) (half2 s.2.1) (half3 s.2.1) (half4 s.2.1) 11#32)
    (k1_pay59 (k1_pay70 v66) v71 s.2.1 (half1 s.2.1) (half2 s.2.1) (half3 s.2.1) (half4 s.2.1) 11#32)
    (k1_pay60 (k1_pay71 v68) v71 s.2.1 (half1 s.2.1) (half2 s.2.1) (half3 s.2.1) (half4 s.2.1) 11#32)

/-- One trip of the second body's loop. -/
def trip (s : Carry F) : Carry F :=
  (k1_pay26 v70 s.1 (pick0 v71 s.1), k1_pay73 s.2.1 (pick1 v71 s.2.1), gain v5 v30 v32 v34 v39 v64 v66 v68 v71 s)

end Trip

set_option maxRecDepth 65536 in
/-- The loop's region has no effect: it returns the trip's result. -/
theorem body_ret (i : grid1.Coords) (arg2 : Memref sig .tc .vmem S1x2048x3 .f32) (harg2 : arg2.IsWhole) (arg3 : Memref sig .tc .vmem S1x3x2048 .f32) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S1x16x384 .bf16) (harg6 : arg6.IsWhole) (arg7 : Memref sig .tc .vmem S1x2048x3 .f32) (harg7 : arg7.IsWhole) (arg8 : Memref sig .tc .vmem S1x3x2048 .f32) (harg8 : arg8.IsWhole) (arg9 : Memref sig .tc .vmem S1x16x384 .bf16) (harg9 : arg9.IsWhole) (arg10 : Memref sig .tc .vmem S1x16x384 .bf16) (harg10 : arg10.IsWhole) (arg11 : Memref sig .tc .vmem S1x16x384 .bf16) (harg11 : arg11.IsWhole) (arg12 : Memref sig .tc .smem S1x1 .f32) (harg12 : arg12.IsWhole) (arg0 arg1 : BitVec 32)
    (v5 : FVec F S1024x3 .f32) (v28 : FVec F S1024x2048 .f32) (v30 v32 v34 : FVec F S16x384 .bf16) (v36 : FVec F S3x2048 .f32)
    (w : BitVec 32) (v39 : Vec F S1x1024x3 .f32) (v64 v66 v68 : Vec F S1x16x384 .bf16) (v70 : IVec S1024x2048 32) (v71 : IVec S1024x128 32)
    (k : Fin k1_t1_loop.trips) (s : Carry F) :
    k1_t1_body i arg2 harg2 arg3 harg3 arg4 harg4 arg5 harg5 arg6 harg6 arg7 harg7 arg8 harg8 arg9 harg9 arg10 harg10 arg11 harg11 arg12 harg12 arg0 arg1 v5 v28 v30 v32 v34 v36 w v39 v64 v66 v68 v70 v71 k s
      = .ret (trip v5 v30 v32 v34 v39 v64 v66 v68 v70 v71 s) := by
  unfold k1_t1_body
  simp only [k1_part1_eq_skeleton, k1_part2_eq_skeleton, k1_part3_eq_skeleton, k1_part4_eq_skeleton, k1_part5_eq_skeleton]
  obtain ⟨a, b, c⟩ := s
  unfold k1_part1_skel k1_part2_skel k1_part3_skel k1_part4_skel k1_part5_skel
  simp only [pure_bind]
  simp only [Prog.pure_eq_ret, trip, gain, pick1, pick0, grp0, rel0, half1, half2, half3, half4]

/-- So the loop returns the sixteenth iterate of the trip. -/
theorem loop_ret (i : grid1.Coords) (arg2 : Memref sig .tc .vmem S1x2048x3 .f32) (harg2 : arg2.IsWhole) (arg3 : Memref sig .tc .vmem S1x3x2048 .f32) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S1x16x384 .bf16) (harg6 : arg6.IsWhole) (arg7 : Memref sig .tc .vmem S1x2048x3 .f32) (harg7 : arg7.IsWhole) (arg8 : Memref sig .tc .vmem S1x3x2048 .f32) (harg8 : arg8.IsWhole) (arg9 : Memref sig .tc .vmem S1x16x384 .bf16) (harg9 : arg9.IsWhole) (arg10 : Memref sig .tc .vmem S1x16x384 .bf16) (harg10 : arg10.IsWhole) (arg11 : Memref sig .tc .vmem S1x16x384 .bf16) (harg11 : arg11.IsWhole) (arg12 : Memref sig .tc .smem S1x1 .f32) (harg12 : arg12.IsWhole) (arg0 arg1 : BitVec 32)
    (v5 : FVec F S1024x3 .f32) (v28 : FVec F S1024x2048 .f32) (v30 v32 v34 : FVec F S16x384 .bf16) (v36 : FVec F S3x2048 .f32)
    (w : BitVec 32) (v39 : Vec F S1x1024x3 .f32) (v64 v66 v68 : Vec F S1x16x384 .bf16) (v70 : IVec S1024x2048 32) (v71 : IVec S1024x128 32)
    (hok : k1_t1_loop.OK) (s : Carry F) :
    Scf.Loop.for k1_t1_loop hok s (k1_t1_body i arg2 harg2 arg3 harg3 arg4 harg4 arg5 harg5 arg6 harg6 arg7 harg7 arg8 harg8 arg9 harg9 arg10 harg10 arg11 harg11 arg12 harg12 arg0 arg1 v5 v28 v30 v32 v34 v36 w v39 v64 v66 v68 v70 v71)
      = .ret ((trip v5 v30 v32 v34 v39 v64 v66 v68 v70 v71)^[16] s) := by
  rw [Scf.Loop.for, Scf.for_pure _ _ _ _ _ _ (fun _ s => trip v5 v30 v32 v34 v39 v64 v66 v68 v70 v71 s)
    (fun k s => body_ret i arg2 harg2 arg3 harg3 arg4 harg4 arg5 harg5 arg6 harg6 arg7 harg7 arg8 harg8 arg9 harg9 arg10 harg10 arg11 harg11 arg12 harg12 arg0 arg1 v5 v28 v30 v32 v34 v36 w v39 v64 v66 v68 v70 v71 k s),
    Scf.fold_eq, List.foldl_const, List.length_finRange]
  rfl

/-- The loop from the two tables of negated distances and a zero sum. -/
def looped (p q : Vec F S1x1024x3 .f32) (pt qt : Vec F S1x3x2048 .f32) (ga gb gc ha hb hc : Vec F S1x16x384 .bf16) : Carry F :=
  (trip (k1_pay61 p) (k1_pay63 ga) (k1_pay64 gb) (k1_pay65 gc) q ha hb hc lanes1 lanes2)^[16]
    (k1_pay62 pt p, k1_pay68 (k1_pay66 qt) q, k1_pay72 (F := F))

/-- What a point of the second body leaves in the running sum that held `v`. -/
def sum1 (i : grid1.Coords) (x0 : Vec F S1x2048x3 .f32) (x1 : Vec F S1x3x2048 .f32) (x2 : Vec F S1x16x384 .bf16) (x3 : Vec F S1x16x384 .bf16) (x4 : Vec F S1x16x384 .bf16) (x5 : Vec F S1x2048x3 .f32) (x6 : Vec F S1x3x2048 .f32) (x7 : Vec F S1x16x384 .bf16) (x8 : Vec F S1x16x384 .bf16) (x9 : Vec F S1x16x384 .bf16) (v : Elt F .f32) : Elt F .f32 :=
  k1_pay1 (looped (View.ld x0 (rrow i)) (View.ld x5 (rrow i)) (View.ld x1 rt) (View.ld x6 rt)
    (View.ld x2 rh) (View.ld x3 rh) (View.ld x4 rh) (View.ld x7 rh) (View.ld x8 rh) (View.ld x9 rh)).2.2 v

local notation "𝕄" => MT nD τ sig Unit (Elt F) ℕ (UR sig nD τ) ℕ

set_option maxHeartbeats 1600000 in
/-- The first body on whole staging buffers: the inputs stay, the output holds `out0` of them. -/
theorem body0_run (c : Dev nD) (E : Set ℕ) (i : grid0.Coords) (arg2 : Memref sig .tc .vmem S1x512x3 .f32) (harg2 : arg2.IsWhole) (arg3 : Memref sig .tc .vmem S1x3x8192 .f32) (harg3 : arg3.IsWhole) (arg4 : Memref sig .tc .vmem S1x64x384 .bf16) (harg4 : arg4.IsWhole) (arg5 : Memref sig .tc .vmem S1x64x384 .bf16) (harg5 : arg5.IsWhole) (arg6 : Memref sig .tc .vmem S1x64x384 .bf16) (harg6 : arg6.IsWhole) (arg7 : Memref sig .tc .vmem S1x512x3 .f32) (harg7 : arg7.IsWhole)
    (x0 : Vec F S1x512x3 .f32) (x1 : Vec F S1x3x8192 .f32) (x2 : Vec F S1x64x384 .bf16) (x3 : Vec F S1x64x384 .bf16) (x4 : Vec F S1x64x384 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0 x0 x1 x2 x3 x4)) -∗ K ⟨⟩))
      ⊢ wp frame (wpE (defs₀ (F := F)) Variants.none c none) E (cc0__chamfer_body i arg2 harg2 arg3 harg3 arg4 harg4 arg5 harg5 arg6 harg6 arg7 harg7) K := by
  simp only [cc0__chamfer_body_eq_skeleton]; unfold cc0__chamfer_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr
  swap; · iexact H5
  ipureintro
  refine (View.read_writes_eq_canon _ _ _ (fun y => View.cover_of_tiled [⟨rp, _⟩] S1x512x3.size (by rfl) y)).trans ?_
  refine (View.canon_unit_zero (S := S1x512x3) (funext fun a => by fin_cases a <;> rfl) _ _).trans ?_
  rfl

/-- A one-by-one array has one index. -/
theorem one_idx (a b : S1x1.Idx) : a = b := funext fun k => Fin.ext (by
  have h : ∀ k : Fin S1x1.rank, S1x1.size k = 1 := by decide
  have h1 : (a k).val < 1 := lt_of_lt_of_eq (a k).isLt (h k)
  have h2 : (b k).val < 1 := lt_of_lt_of_eq (b k).isLt (h k)
  omega)

/-- The running sum is cleared at the first point of the grid only. -/
abbrev first1 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem first1_iff : ∀ t : Fin cfg1.N, first1 (grid1.coords t) ↔ t.val % 4 = 0 :=
  (fun t => by
    have ht : t.val < 4 := Nat.lt_of_lt_of_eq t.isLt N_1
    have e0 : (grid1.coords t 0).val = t.val / 2 % 2 := Pipeline.Grid.coords_val t 0 (by decide) rfl
    have e1 : (grid1.coords t 1).val = t.val / 1 % 2 := Pipeline.Grid.coords_val t 1 (by decide) rfl
    simp only [first1, e0, e1]
    word_cmp
   : ∀ t : Fin grid1.N, first1 (grid1.coords t) ↔ t.val % 4 = 0)

set_option maxHeartbeats 1600000 in
/-- The second body at the first point: the sum starts from zero. -/
theorem body1_first (c : Dev nD) (E : Set ℕ) (i : grid1.Coords) (arg2 : Memref sig .tc .vmem S1x2048x3 .f32) (harg2 : arg2.IsWhole) (arg3 : Memref sig .tc .vmem S1x3x2048 .f32) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S1x16x384 .bf16) (harg6 : arg6.IsWhole) (arg7 : Memref sig .tc .vmem S1x2048x3 .f32) (harg7 : arg7.IsWhole) (arg8 : Memref sig .tc .vmem S1x3x2048 .f32) (harg8 : arg8.IsWhole) (arg9 : Memref sig .tc .vmem S1x16x384 .bf16) (harg9 : arg9.IsWhole) (arg10 : Memref sig .tc .vmem S1x16x384 .bf16) (harg10 : arg10.IsWhole) (arg11 : Memref sig .tc .vmem S1x16x384 .bf16) (harg11 : arg11.IsWhole) (arg12 : Memref sig .tc .smem S1x1 .f32) (harg12 : arg12.IsWhole) (hc : first1 i)
    (x0 : Vec F S1x2048x3 .f32) (x1 : Vec F S1x3x2048 .f32) (x2 : Vec F S1x16x384 .bf16) (x3 : Vec F S1x16x384 .bf16) (x4 : Vec F S1x16x384 .bf16) (x5 : Vec F S1x2048x3 .f32) (x6 : Vec F S1x3x2048 .f32) (x7 : Vec F S1x16x384 .bf16) (x8 : Vec F S1x16x384 .bf16) (x9 : Vec F S1x16x384 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (fun _ => sum1 i x0 x1 x2 x3 x4 x5 x6 x7 x8 x9 (Scalar.ofBits .f32 0x00000000#32))) -∗ K ⟨⟩))
      ⊢ wp frame (wpE (defs₀ (F := F)) Variants.none c none) E (cc1__knn_loss_body i arg2 harg2 arg3 harg3 arg4 harg4 arg5 harg5 arg6 harg6 arg7 harg7 arg8 harg8 arg9 harg9 arg10 harg10 arg11 harg11 arg12 harg12) K := by
  simp only [cc1__knn_loss_body_eq_skeleton]; unfold cc1__knn_loss_body_skel
  simp only [k1_part1_eq_skeleton, k1_part2_eq_skeleton, k1_part3_eq_skeleton, k1_part4_eq_skeleton, k1_part5_eq_skeleton, k1_part6_eq_skeleton, k1_part7_eq_skeleton]
  simp only [k1_part7_skel, loop_ret]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  iexists _; isplitr
  swap; · iexact H10
  ipureintro
  refine (View.read_writes_eq_canon _ _ _ (fun y => ⟨_, List.mem_cons_self, by
    rw [Rect.mem_set_unit]; intro a; exact ⟨by fin_cases a <;> exact Nat.zero_le _, by have := (y a).isLt; fin_cases a <;> exact this⟩⟩)).trans ?_
  refine (View.canon_cons_unit_zero (S := S1x1) (funext fun a => by fin_cases a <;> rfl) _ _ _).trans ?_
  funext y
  unfold body1_first.sl.r_7

  rfl

set_option maxHeartbeats 1600000 in
/-- The second body at a later point: the sum goes on from what it was. -/
theorem body1_later (c : Dev nD) (E : Set ℕ) (i : grid1.Coords) (arg2 : Memref sig .tc .vmem S1x2048x3 .f32) (harg2 : arg2.IsWhole) (arg3 : Memref sig .tc .vmem S1x3x2048 .f32) (harg3 : arg3.IsWhole) (arg4 : Memref sig .tc .vmem S1x16x384 .bf16) (harg4 : arg4.IsWhole) (arg5 : Memref sig .tc .vmem S1x16x384 .bf16) (harg5 : arg5.IsWhole) (arg6 : Memref sig .tc .vmem S1x16x384 .bf16) (harg6 : arg6.IsWhole) (arg7 : Memref sig .tc .vmem S1x2048x3 .f32) (harg7 : arg7.IsWhole) (arg8 : Memref sig .tc .vmem S1x3x2048 .f32) (harg8 : arg8.IsWhole) (arg9 : Memref sig .tc .vmem S1x16x384 .bf16) (harg9 : arg9.IsWhole) (arg10 : Memref sig .tc .vmem S1x16x384 .bf16) (harg10 : arg10.IsWhole) (arg11 : Memref sig .tc .vmem S1x16x384 .bf16) (harg11 : arg11.IsWhole) (arg12 : Memref sig .tc .smem S1x1 .f32) (harg12 : arg12.IsWhole) (hc : ¬ first1 i)
    (x0 : Vec F S1x2048x3 .f32) (x1 : Vec F S1x3x2048 .f32) (x2 : Vec F S1x16x384 .bf16) (x3 : Vec F S1x16x384 .bf16) (x4 : Vec F S1x16x384 .bf16) (x5 : Vec F S1x2048x3 .f32) (x6 : Vec F S1x3x2048 .f32) (x7 : Vec F S1x16x384 .bf16) (x8 : Vec F S1x16x384 .bf16) (x9 : Vec F S1x16x384 .bf16) (x10 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (fun y => sum1 i x0 x1 x2 x3 x4 x5 x6 x7 x8 x9 (x10 y))) -∗ K ⟨⟩))
      ⊢ wp frame (wpE (defs₀ (F := F)) Variants.none c none) E (cc1__knn_loss_body i arg2 harg2 arg3 harg3 arg4 harg4 arg5 harg5 arg6 harg6 arg7 harg7 arg8 harg8 arg9 harg9 arg10 harg10 arg11 harg11 arg12 harg12) K := by
  simp only [cc1__knn_loss_body_eq_skeleton]; unfold cc1__knn_loss_body_skel
  simp only [k1_part1_eq_skeleton, k1_part2_eq_skeleton, k1_part3_eq_skeleton, k1_part4_eq_skeleton, k1_part5_eq_skeleton, k1_part6_eq_skeleton, k1_part7_eq_skeleton]
  simp only [k1_part7_skel, loop_ret]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1 hf2 hf3 hf4 hf5 hf6 hf7 hf8 hf9 hf10
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  iexists _; isplitr
  swap; · iexact H10
  ipureintro
  refine (View.read_writes_eq_canon _ _ _ (fun y => ⟨_, List.mem_cons_self, by
    rw [Rect.mem_set_unit]; intro a; exact ⟨by fin_cases a <;> exact Nat.zero_le _, by have := (y a).isLt; fin_cases a <;> exact this⟩⟩)).trans ?_
  refine (View.canon_cons_unit_zero (S := S1x1) (funext fun a => by fin_cases a <;> rfl) _ _ _).trans ?_
  funext y
  unfold body1_later.sl.r_6

  exact congrArg (fun z => sum1 i (View.read (Elt F) arg2.view f0) (View.read (Elt F) arg3.view f1) (View.read (Elt F) arg4.view f2) (View.read (Elt F) arg5.view f3) (View.read (Elt F) arg6.view f4) (View.read (Elt F) arg7.view f5) (View.read (Elt F) arg8.view f6) (View.read (Elt F) arg9.view f7) (View.read (Elt F) arg10.view f8) (View.read (Elt F) arg11.view f9) z) (congrArg (View.read (Elt F) arg12.view f10) (one_idx _ y))

end Cert.KernelIdeal.Knn

end
-- ==== Proof.KernelIdealRun.lean ====
/- The run of the program: both regions, the host stretches between them, and what every buffer ends with. -/
module

public import proofs.«01_k».proof.Proof.KernelIdealBody
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- Region 0: the block of window `w` at point `t`, as the region finds the array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: inputs at their blocks, the output at what the body leaves. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0 (blk0 V c 0 t) (blk0 V c 1 t) (blk0 V c 2 t) (blk0 V c 3 t) (blk0 V c 4 t)
  Φ _ := Pipeline.ΦA spec0 c
  q _ := fullShare
  owed _ := 0
theorem data0_A (c : Dev nD) (w : Fin cfg0.W) : (data0 V c).A w = V c (Pipeline.arrRef spec0 w) := by
  dsimp only [data0]
theorem left0_0 (c : Dev nD) (t : Fin cfg0.N) : (data0 V c).after 0 t = blk0 V c 0 t := by dsimp only [data0]
theorem left0_1 (c : Dev nD) (t : Fin cfg0.N) : (data0 V c).after 1 t = blk0 V c 1 t := by dsimp only [data0]
theorem left0_2 (c : Dev nD) (t : Fin cfg0.N) : (data0 V c).after 2 t = blk0 V c 2 t := by dsimp only [data0]
theorem left0_3 (c : Dev nD) (t : Fin cfg0.N) : (data0 V c).after 3 t = blk0 V c 3 t := by dsimp only [data0]
theorem left0_4 (c : Dev nD) (t : Fin cfg0.N) : (data0 V c).after 4 t = blk0 V c 4 t := by dsimp only [data0]
theorem left0_5 (c : Dev nD) (t : Fin cfg0.N) : (data0 V c).after 5 t = out0 (blk0 V c 0 t) (blk0 V c 1 t) (blk0 V c 2 t) (blk0 V c 3 t) (blk0 V c 4 t) := by dsimp only [data0]
theorem found0_0 (c : Dev nD) (t : Fin cfg0.N) (d) : (data0 V c).before 0 t d = blk0 V c 0 t :=
  ((data0 V c).before_in_eq_fetched 0 rfl (fun _ => rfl) (fun _ _ _ => rfl) (fun t => by rw [left0_0]; unfold Dat.blockOf blk0; rw [data0_A]; try rfl) t d).trans
    (by unfold Dat.fetched Dat.blockOf blk0; rw [data0_A]; try rfl)
theorem found0_1 (c : Dev nD) (t : Fin cfg0.N) (d) : (data0 V c).before 1 t d = blk0 V c 1 t :=
  ((data0 V c).before_in_eq_fetched 1 rfl (fun _ => rfl) (fun _ _ _ => rfl) (fun t => by rw [left0_1]; unfold Dat.blockOf blk0; rw [data0_A]; try rfl) t d).trans
    (by unfold Dat.fetched Dat.blockOf blk0; rw [data0_A]; try rfl)
theorem found0_2 (c : Dev nD) (t : Fin cfg0.N) (d) : (data0 V c).before 2 t d = blk0 V c 2 t :=
  ((data0 V c).before_in_eq_fetched 2 rfl (fun _ => rfl) (fun _ _ _ => rfl) (fun t => by rw [left0_2]; unfold Dat.blockOf blk0; rw [data0_A]; try rfl) t d).trans
    (by unfold Dat.fetched Dat.blockOf blk0; rw [data0_A]; try rfl)
theorem found0_3 (c : Dev nD) (t : Fin cfg0.N) (d) : (data0 V c).before 3 t d = blk0 V c 3 t :=
  ((data0 V c).before_in_eq_fetched 3 rfl (fun _ => rfl) (fun _ _ _ => rfl) (fun t => by rw [left0_3]; unfold Dat.blockOf blk0; rw [data0_A]; try rfl) t d).trans
    (by unfold Dat.fetched Dat.blockOf blk0; rw [data0_A]; try rfl)
theorem found0_4 (c : Dev nD) (t : Fin cfg0.N) (d) : (data0 V c).before 4 t d = blk0 V c 4 t :=
  ((data0 V c).before_in_eq_fetched 4 rfl (fun _ => rfl) (fun _ _ _ => rfl) (fun t => by rw [left0_4]; unfold Dat.blockOf blk0; rw [data0_A]; try rfl) t d).trans
    (by unfold Dat.fetched Dat.blockOf blk0; rw [data0_A]; try rfl)

/-- Region 0: what the body is entered with at a point, and what it leaves. -/
def enter0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d)))
def leave0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t))

set_option maxHeartbeats 1600000 in
theorem point0 (c : Dev nD) (t : Fin cfg0.N) :
    enter0 V c t ⊢ wp frame (wpE (defs₀ (F := F)) Variants.none c none) Set.univ (bodyAt0 t) (fun _ => leave0 V c t) := by
  unfold enter0 leave0 bodyAt0
  simp only [found0_0, found0_1, found0_2, found0_3, found0_4]
  rw [show (data0 V c).Φ t.succ = (data0 V c).Φ t.castSucc from rfl,
    show (data0 V c).owesAt () t.succ = (data0 V c).owesAt () t.castSucc from rfl,
    left0_0, left0_1, left0_2, left0_3, left0_4, left0_5]
  iintro ⟨HΦ, Ho, ⟨%d0, H0⟩, ⟨%d1, H1⟩, ⟨%d2, H2⟩, ⟨%d3, H3⟩, ⟨%d4, H4⟩, ⟨%d5, H5⟩⟩
  iapply (body0_run c Set.univ (grid0.coords t) _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row0 (t : Fin cfg0.N) :
    defs₀ (F := F) .tc cfg0.body (cfg0.bodyArgs t (cfg0.slots t)) = bodyAt0 t := by
  unfold defs₀; rw [Defs.onTc_tc]

theorem obligation0 (c : Dev nD) : BodyObligation (data0 (F := F) V c) (defs₀ (F := F)) Variants.none () Set.univ := fun t => by
  rw [bigSep_W0, bigSep_W0, row0]
  exact triple_restated (point0 V c t) rfl .rfl fun _ => .rfl

/-- Region 1: the block of window `w` at point `t`, as the region finds the array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1: what point `t` makes of the running sum. -/
def add1 (c : Dev nD) (t : Fin cfg1.N) (v : Elt F .f32) : Elt F .f32 :=
  sum1 (grid1.coords t) (blk1 V c 0 t) (blk1 V c 1 t) (blk1 V c 2 t) (blk1 V c 3 t) (blk1 V c 4 t) (blk1 V c 5 t) (blk1 V c 6 t) (blk1 V c 7 t) (blk1 V c 8 t) (blk1 V c 9 t) v
/-- Region 1: the running sum after point `n`. -/
def sumAt (c : Dev nD) : (n : Nat) → n < cfg1.N → Elt F .f32
  | 0, h => add1 V c ⟨0, h⟩ (Scalar.ofBits .f32 0x00000000#32)
  | n + 1, h => add1 V c ⟨n + 1, h⟩ (sumAt c n (Nat.lt_of_succ_lt h))
theorem sumAt_zero (c : Dev nD) (t : Fin cfg1.N) (h : t.val % 4 = 0) :
    sumAt V c t.val t.isLt = add1 V c t (Scalar.ofBits .f32 0x00000000#32) := by
  obtain ⟨n, hn⟩ := t
  have hN : n < 4 := lt_of_lt_of_eq hn N_1
  dsimp only at h
  obtain rfl : n = 0 := by omega
  rfl
theorem sumAt_later (c : Dev nD) (t : Fin cfg1.N) (h : ¬ t.val % 4 = 0) :
    sumAt V c t.val t.isLt = add1 V c t (sumAt V c (t.val - 1) (Nat.lt_of_le_of_lt (Nat.sub_le _ _) t.isLt)) := by
  obtain ⟨n, hn⟩ := t
  cases n with
  | zero => exact absurd (Nat.zero_mod _) h
  | succ n => rfl

/-- Region 1's proof data: inputs at their blocks, the output at what the body leaves. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => fun _ => sumAt V c t.val t.isLt
  Φ _ := Pipeline.ΦA spec1 c
  q _ := fullShare
  owed _ := 0
theorem data1_A (c : Dev nD) (w : Fin cfg1.W) : (data1 V c).A w = V c (Pipeline.arrRef spec1 w) := by
  dsimp only [data1]
theorem left1_0 (c : Dev nD) (t : Fin cfg1.N) : (data1 V c).after 0 t = blk1 V c 0 t := by dsimp only [data1]
theorem left1_1 (c : Dev nD) (t : Fin cfg1.N) : (data1 V c).after 1 t = blk1 V c 1 t := by dsimp only [data1]
theorem left1_2 (c : Dev nD) (t : Fin cfg1.N) : (data1 V c).after 2 t = blk1 V c 2 t := by dsimp only [data1]
theorem left1_3 (c : Dev nD) (t : Fin cfg1.N) : (data1 V c).after 3 t = blk1 V c 3 t := by dsimp only [data1]
theorem left1_4 (c : Dev nD) (t : Fin cfg1.N) : (data1 V c).after 4 t = blk1 V c 4 t := by dsimp only [data1]
theorem left1_5 (c : Dev nD) (t : Fin cfg1.N) : (data1 V c).after 5 t = blk1 V c 5 t := by dsimp only [data1]
theorem left1_6 (c : Dev nD) (t : Fin cfg1.N) : (data1 V c).after 6 t = blk1 V c 6 t := by dsimp only [data1]
theorem left1_7 (c : Dev nD) (t : Fin cfg1.N) : (data1 V c).after 7 t = blk1 V c 7 t := by dsimp only [data1]
theorem left1_8 (c : Dev nD) (t : Fin cfg1.N) : (data1 V c).after 8 t = blk1 V c 8 t := by dsimp only [data1]
theorem left1_9 (c : Dev nD) (t : Fin cfg1.N) : (data1 V c).after 9 t = blk1 V c 9 t := by dsimp only [data1]
theorem left1_10 (c : Dev nD) (t : Fin cfg1.N) : (data1 V c).after 10 t = fun _ => sumAt V c t.val t.isLt := by dsimp only [data1]
theorem found1_0 (c : Dev nD) (t : Fin cfg1.N) (d) : (data1 V c).before 0 t d = blk1 V c 0 t :=
  ((data1 V c).before_in_eq_fetched 0 rfl (fun _ => rfl) (fun _ _ _ => rfl) (fun t => by rw [left1_0]; unfold Dat.blockOf blk1; rw [data1_A]; try rfl) t d).trans
    (by unfold Dat.fetched Dat.blockOf blk1; rw [data1_A]; try rfl)
theorem found1_1 (c : Dev nD) (t : Fin cfg1.N) (d) : (data1 V c).before 1 t d = blk1 V c 1 t :=
  ((data1 V c).before_in_eq_fetched 1 rfl (fun _ => rfl) (fun _ _ _ => rfl) (fun t => by rw [left1_1]; unfold Dat.blockOf blk1; rw [data1_A]; try rfl) t d).trans
    (by unfold Dat.fetched Dat.blockOf blk1; rw [data1_A]; try rfl)
theorem found1_2 (c : Dev nD) (t : Fin cfg1.N) (d) : (data1 V c).before 2 t d = blk1 V c 2 t :=
  ((data1 V c).before_in_eq_fetched 2 rfl (fun _ => rfl) (fun _ _ _ => rfl) (fun t => by rw [left1_2]; unfold Dat.blockOf blk1; rw [data1_A]; try rfl) t d).trans
    (by unfold Dat.fetched Dat.blockOf blk1; rw [data1_A]; try rfl)
theorem found1_3 (c : Dev nD) (t : Fin cfg1.N) (d) : (data1 V c).before 3 t d = blk1 V c 3 t :=
  ((data1 V c).before_in_eq_fetched 3 rfl (fun _ => rfl) (fun _ _ _ => rfl) (fun t => by rw [left1_3]; unfold Dat.blockOf blk1; rw [data1_A]; try rfl) t d).trans
    (by unfold Dat.fetched Dat.blockOf blk1; rw [data1_A]; try rfl)
theorem found1_4 (c : Dev nD) (t : Fin cfg1.N) (d) : (data1 V c).before 4 t d = blk1 V c 4 t :=
  ((data1 V c).before_in_eq_fetched 4 rfl (fun _ => rfl) (fun _ _ _ => rfl) (fun t => by rw [left1_4]; unfold Dat.blockOf blk1; rw [data1_A]; try rfl) t d).trans
    (by unfold Dat.fetched Dat.blockOf blk1; rw [data1_A]; try rfl)
theorem found1_5 (c : Dev nD) (t : Fin cfg1.N) (d) : (data1 V c).before 5 t d = blk1 V c 5 t :=
  ((data1 V c).before_in_eq_fetched 5 rfl (fun _ => rfl) (fun _ _ _ => rfl) (fun t => by rw [left1_5]; unfold Dat.blockOf blk1; rw [data1_A]; try rfl) t d).trans
    (by unfold Dat.fetched Dat.blockOf blk1; rw [data1_A]; try rfl)
theorem found1_6 (c : Dev nD) (t : Fin cfg1.N) (d) : (data1 V c).before 6 t d = blk1 V c 6 t :=
  ((data1 V c).before_in_eq_fetched 6 rfl (fun _ => rfl) (fun _ _ _ => rfl) (fun t => by rw [left1_6]; unfold Dat.blockOf blk1; rw [data1_A]; try rfl) t d).trans
    (by unfold Dat.fetched Dat.blockOf blk1; rw [data1_A]; try rfl)
theorem found1_7 (c : Dev nD) (t : Fin cfg1.N) (d) : (data1 V c).before 7 t d = blk1 V c 7 t :=
  ((data1 V c).before_in_eq_fetched 7 rfl (fun _ => rfl) (fun _ _ _ => rfl) (fun t => by rw [left1_7]; unfold Dat.blockOf blk1; rw [data1_A]; try rfl) t d).trans
    (by unfold Dat.fetched Dat.blockOf blk1; rw [data1_A]; try rfl)
theorem found1_8 (c : Dev nD) (t : Fin cfg1.N) (d) : (data1 V c).before 8 t d = blk1 V c 8 t :=
  ((data1 V c).before_in_eq_fetched 8 rfl (fun _ => rfl) (fun _ _ _ => rfl) (fun t => by rw [left1_8]; unfold Dat.blockOf blk1; rw [data1_A]; try rfl) t d).trans
    (by unfold Dat.fetched Dat.blockOf blk1; rw [data1_A]; try rfl)
theorem found1_9 (c : Dev nD) (t : Fin cfg1.N) (d) : (data1 V c).before 9 t d = blk1 V c 9 t :=
  ((data1 V c).before_in_eq_fetched 9 rfl (fun _ => rfl) (fun _ _ _ => rfl) (fun t => by rw [left1_9]; unfold Dat.blockOf blk1; rw [data1_A]; try rfl) t d).trans
    (by unfold Dat.fetched Dat.blockOf blk1; rw [data1_A]; try rfl)
/-- At a later point the output's buffer still holds the sum of the point before. -/
theorem found1_10 (c : Dev nD) (t : Fin cfg1.N) (h0 : ¬ t.val % 4 = 0) (d) :
    (data1 V c).before 10 t d = fun _ => sumAt V c (t.val - 1) (Nat.lt_of_le_of_lt (Nat.sub_le _ _) t.isLt) := by
  have hN : t.val < 4 := lt_of_lt_of_eq t.isLt (show cfg1.N = 4 from N_1)
  rw [Dat.before_out_kept _ 10 rfl t (by omega) (Bool.eq_false_iff.mpr fun h => by have := (flush1_10 _).mp h; dsimp only at this; omega)
    (fun _ => rfl) (fun _ _ => rfl)]
  dsimp only [data1]

/-- Region 1: what the body is entered with at a point, and what it leaves. -/
def enter1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d))
    ∗ (∃ d, owns (c : Thread nD τ) (st1_8 t) fullShare ((data1 V c).before 8 t d))
    ∗ (∃ d, owns (c : Thread nD τ) (st1_9 t) fullShare ((data1 V c).before 9 t d))
    ∗ (∃ d, owns (c : Thread nD τ) (st1_10 t) fullShare ((data1 V c).before 10 t d)))
def leave1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t)
    ∗ owns (c : Thread nD τ) (st1_7 t) fullShare ((data1 V c).after 7 t)
    ∗ owns (c : Thread nD τ) (st1_8 t) fullShare ((data1 V c).after 8 t)
    ∗ owns (c : Thread nD τ) (st1_9 t) fullShare ((data1 V c).after 9 t)
    ∗ owns (c : Thread nD τ) (st1_10 t) fullShare ((data1 V c).after 10 t))

set_option maxHeartbeats 1600000 in
theorem point1 (c : Dev nD) (t : Fin cfg1.N) :
    enter1 V c t ⊢ wp frame (wpE (defs₀ (F := F)) Variants.none c none) Set.univ (bodyAt1 t) (fun _ => leave1 V c t) := by
  unfold enter1 leave1 bodyAt1
  simp only [found1_0, found1_1, found1_2, found1_3, found1_4, found1_5, found1_6, found1_7, found1_8, found1_9]
  rw [show (data1 V c).Φ t.succ = (data1 V c).Φ t.castSucc from rfl,
    show (data1 V c).owesAt () t.succ = (data1 V c).owesAt () t.castSucc from rfl,
    left1_0, left1_1, left1_2, left1_3, left1_4, left1_5, left1_6, left1_7, left1_8, left1_9, left1_10]
  by_cases h0 : t.val % 4 = 0
  · rw [sumAt_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body1_first c Set.univ (grid1.coords t) _ _ _ _ _ _ _ _ _ _ _ _ _ _ _ _ _ _ _ _ _ _ ((first1_iff t).mpr h0) (blk1 V c 0 t) (blk1 V c 1 t) (blk1 V c 2 t) (blk1 V c 3 t) (blk1 V c 4 t) (blk1 V c 5 t) (blk1 V c 6 t) (blk1 V c 7 t) (blk1 V c 8 t) (blk1 V c 9 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [sumAt_later V c t h0]
    simp only [found1_10 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body1_later c Set.univ (grid1.coords t) _ _ _ _ _ _ _ _ _ _ _ _ _ _ _ _ _ _ _ _ _ _ (fun h => h0 ((first1_iff t).mp h)) (blk1 V c 0 t) (blk1 V c 1 t) (blk1 V c 2 t) (blk1 V c 3 t) (blk1 V c 4 t) (blk1 V c 5 t) (blk1 V c 6 t) (blk1 V c 7 t) (blk1 V c 8 t) (blk1 V c 9 t) (fun _ => sumAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem row1 (t : Fin cfg1.N) :
    defs₀ (F := F) .tc cfg1.body (cfg1.bodyArgs t (cfg1.slots t)) = bodyAt1 t := by
  unfold defs₀; rw [Defs.onTc_tc]

theorem obligation1 (c : Dev nD) : BodyObligation (data1 (F := F) V c) (defs₀ (F := F)) Variants.none () Set.univ := fun t => by
  rw [bigSep_W1, bigSep_W1, row1]
  exact triple_restated (point1 V c t) rfl .rfl fun _ => .rfl

end Regions

/-- The two argument arrays. -/
abbrev argRefs : List (Ref sig .tc) := [main_arg0, main_arg1]

/-- The buffers at launch, and after the first stretch of host operations. -/
abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After region 0: its arrays at what the pipeline leaves, the rest as before. -/
def W2 (c : Dev nD) : Valuation τ sig (Elt F) :=
  Pipeline.withArrays spec0 c (W1 m ρ c) fun w => (data0 (U1 m ρ) c).arrAt w cfg0.N
abbrev U2 : (c : Dev nD) → (b : Ref sig .tc) → Buf (Elt F) ((c : Thread nD τ).loc b) := fun c b => W2 m ρ c b
theorem W2_arr (c : Dev nD) (w : Fin cfg0.W) :
    W2 m ρ c (Proc.devRef .tc (Pipeline.arrRef spec0 w)) = (data0 (U1 m ρ) c).arrAt w cfg0.N := by
  unfold W2; exact Pipeline.withArrays_arr spec0 launch0.win.arr_inj c _ _ w
theorem W2_other (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((data0 (U1 m ρ) c).arrAt_in w (h w rfl) _).trans (data0_A (U1 m ρ) c w))
  · exact W2_other m ρ c r fun w e => hw ⟨w, e⟩
theorem args_in0 : ∀ a ∈ argRefs, ∀ w : Fin cfg0.W, Pipeline.arrRef spec0 w = a → (cfg0.win w).isOut = false :=
  ListAll.forall_mem_of_all_decide (by decide +kernel)

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- After region 1: its arrays at what the pipeline leaves, the rest as before. -/
def W4 (c : Dev nD) : Valuation τ sig (Elt F) :=
  Pipeline.withArrays spec1 c (W3 m ρ c) fun w => (data1 (U3 m ρ) c).arrAt w cfg1.N
abbrev U4 : (c : Dev nD) → (b : Ref sig .tc) → Buf (Elt F) ((c : Thread nD τ).loc b) := fun c b => W4 m ρ c b
theorem W4_arr (c : Dev nD) (w : Fin cfg1.W) :
    W4 m ρ c (Proc.devRef .tc (Pipeline.arrRef spec1 w)) = (data1 (U3 m ρ) c).arrAt w cfg1.N := by
  unfold W4; exact Pipeline.withArrays_arr spec1 launch1.win.arr_inj c _ _ w
theorem W4_other (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((data1 (U3 m ρ) c).arrAt_in w (h w rfl) _).trans (data1_A (U3 m ρ) c w))
  · exact W4_other m ρ c r fun w e => hw ⟨w, e⟩
theorem args_in1 : ∀ a ∈ argRefs, ∀ w : Fin cfg1.W, Pipeline.arrRef spec1 w = a → (cfg1.win w).isOut = false :=
  ListAll.forall_mem_of_all_decide (by decide +kernel)

/-- At the return. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem args_out : (∀ a ∈ argRefs, a ∉ hostOps0_W) ∧ (∀ a ∈ argRefs, a ∉ hostOps1_W) ∧ (∀ a ∈ argRefs, a ∉ hostOps2_W) :=
  ⟨ListAll.forall_mem_of_all_decide (by decide +kernel), ListAll.forall_mem_of_all_decide (by decide +kernel), ListAll.forall_mem_of_all_decide (by decide +kernel)⟩
/-- The arguments at each boundary are as launched. -/
theorem W1_args (c : Dev nD) (a : Ref sig .tc) (ha : a ∈ argRefs) : W1 m ρ c (Proc.devRef .tc a) = m ((c : Thread nD τ).loc a) :=
  W1_of m ρ c a (args_out.1 a ha)
theorem W2_args (c : Dev nD) (a : Ref sig .tc) (ha : a ∈ argRefs) : W2 m ρ c (Proc.devRef .tc a) = m ((c : Thread nD τ).loc a) :=
  (W2_of m ρ c a (args_in0 a ha)).trans (W1_args m ρ c a ha)
theorem W4_args (c : Dev nD) (a : Ref sig .tc) (ha : a ∈ argRefs) : W4 m ρ c (Proc.devRef .tc a) = m ((c : Thread nD τ).loc a) :=
  (W4_of m ρ c a (args_in1 a ha)).trans ((W3_of m ρ c a (args_out.2.1 a ha)).trans (W2_args m ρ c a ha))
theorem W5_args (c : Dev nD) (a : Ref sig .tc) (ha : a ∈ argRefs) : W5 m ρ c (Proc.devRef .tc a) = m ((c : Thread nD τ).loc a) :=
  (W5_of m ρ c a (args_out.2.2 a ha)).trans (W4_args m ρ c a ha)

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => data0 (U1 m ρ) c
  | ⟨1, _⟩ => fun c => data1 (U3 m ρ) c
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment of the program. -/
def seg_reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (data0_A (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (fun w => (W2_arr m ρ c w).symm)
      (fun b hb => W2_other m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program. -/
def seg_reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) (data1_A (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (fun w => (W4_arr m ρ c w).symm)
      (fun b hb => W4_other m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its five segments. -/
abbrev segs : List (Pipeline.Seg (pcfgs (F := F)) adm (pdats m ρ) () defs₀ 𝒱₀ L lv) :=
  [ .host (hseg hostOps0 hostOps0_sub hostOps0_fresh (W0 m ρ)),
    .region (seg_reg0 m ρ),
    .host (hseg hostOps1 hostOps1_sub hostOps1_fresh (W2 m ρ)),
    .region (seg_reg1 m ρ),
    .host (hseg hostOps2 hostOps2_sub hostOps2_fresh (W4 m ρ)) ]
theorem main_segs (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every run ends, with the result and the arguments at the last boundary's contents and every counter at zero. -/
theorem ends : θ_run defs (onTc (τ := τ) (main (F := F))) ⟨m, fun _ => 0, ρ⟩ (fun r => (∀ c : Dev nD,
      r.2.mem ((c.tc : Thread nD τ).loc main_v115) = W5 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v115 (by decide)),
       (h c _ (mem_uc main_arg0 (by decide))).trans (W5_args m ρ c main_arg0 (by decide)),
       (h c _ (mem_uc main_arg1 (by decide))).trans (W5_args m ρ c main_arg1 (by decide))⟩), funext fun g => hz g (.inr (no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (ends m ρ)

end Cert.KernelIdeal.Knn

end
-- ==== Proof.ReferenceRun.lean ====
/- The run of the reference: @main is one line of host operations, cut into four stretches (the matched points, the
   partial cloud's neighbour offsets, the matched cloud's, the mean of squares), and its result written as one
   expression of the arguments. -/
module

public import proofs.«01_k».proof.Defs
public import proofs.«01_k».proof.Proof.Gen.ReferenceIdeal
public import Idealize.ShloMosaic.Lib.Claim
public import Idealize.ShloMosaic.Lib.Pipeline.RegionsLoop
public import Idealize.ShloMosaic.Lib.Pipeline.FrameSuffix

@[expose] public section

set_option maxRecDepth 16384

noncomputable section

namespace Cert.ReferenceIdeal.Knn

open Idealize.ShloMosaic Idealize.ShloMosaic.TcCoe Idealize.ShloMosaic.StableHlo Idealize.SL.Sem
open Cert.ReferenceIdeal Cert.ReferenceIdeal.Gen

variable {F : FTy → Type} [FloatOps F]

/-! ## The operations -/

/-- The operations up to the matched points. -/
abbrev matchOps : List (HloOp τ sig (Elt F)) :=
  [ binary main_arg1 main_arg1 main_v0 (mulf),
    nullary main_cst (constant S_ .f32 0x00000000#32),
    binary main_v0 main_cst main_v1 ((fun x v => Host.reduceAdd x v reducesTo_S2x2048x3_S2x2048_d2 h_S_)),
    binary main_arg0 main_arg0 main_v2 (mulf),
    nullary main_cst_0 (constant S_ .f32 0x00000000#32),
    binary main_v2 main_cst_0 main_v3 ((fun x v => Host.reduceAdd x v reducesTo_S2x8192x3_S2x8192_d2 h_S_)),
    unary main_arg0 main_v4 ((transpose S2x3x8192 [0, 2, 1] · transposes_S2x8192x3_S2x3x8192_0_2_1)),
    binary main_arg1 main_v4 main_v5 ((fun l r => Host.dotGeneral dot_S2x2048x3_S2x3x8192_S2x2048x8192_2_1_1_2_0_0 none l r)),
    unary main_v1 main_v6 (broadcastInDim S2x2048x1 ![0, 1] bcast_S2x2048_S2x2048x1_0_1),
    unary main_v3 main_v7 (broadcastInDim S2x1x8192 ![0, 2] bcast_S2x8192_S2x1x8192_0_2),
    unary main_v6 main_v8 (broadcastInDim S2x2048x8192 ![0, 1, 2] bcast_S2x2048x1_S2x2048x8192_0_1_2),
    unary main_v7 main_v9 (broadcastInDim S2x2048x8192 ![0, 1, 2] bcast_S2x1x8192_S2x2048x8192_0_1_2),
    binary main_v8 main_v9 main_v10 (addf),
    nullary main_cst_1 (constant S_ .f32 0x40000000#32),
    unary main_cst_1 main_v11 (broadcastInDim S2x2048x8192 ![] bcast_S_S2x2048x8192),
    binary main_v11 main_v5 main_v12 (mulf),
    binary main_v10 main_v12 main_v13 (subf),
    nullary main_call0_v0 (iotaInDim S2x2048x8192 32 2),
    nullary main_call0_cst (constant S_ .f32 0x7F800000#32),
    nullary main_call0_c (constantI S_ 32 0#32),
    quaternary main_v13 main_call0_v0 main_call0_cst main_call0_c main_call0_v1_0 (fun x y u v j => (Host.argReduce reducer_argmin_f32_i32 x y u v reducesTo_S2x2048x8192_S2x2048_d2 h_S_ j).1),
    quaternary main_v13 main_call0_v0 main_call0_cst main_call0_c main_v14 (fun x y u v j => (Host.argReduce reducer_argmin_f32_i32 x y u v reducesTo_S2x2048x8192_S2x2048_d2 h_S_ j).2),
    nullary main_c (constantI S_ 32 0#32),
    unary main_c main_v15 (broadcastInDim S2x2048 ![] bcast_S_S2x2048),
    binary main_v14 main_v15 main_v16 (cmpi .slt),
    nullary main_c_2 (constantI S_ 32 8192#32),
    unary main_c_2 main_v17 (broadcastInDim S2x2048 ![] bcast_S_S2x2048),
    binary main_v14 main_v17 main_v18 (addi),
    ternary main_v16 main_v18 main_v14 main_v19 (select),
    unary main_v19 main_v20 (broadcastInDim S2x2048x1 ![0, 1] bcast_S2x2048_S2x2048x1_0_1),
    binary main_arg0 main_v20 main_v21 ((fun x i => Host.gather gather_S2x8192x3_S2x2048x1_S2x2048x3_2_1_0_0_1_2_113 x i)) ]

/-- The partial cloud's neighbour offsets. -/
abbrev partialOps : List (HloOp τ sig (Elt F)) :=
  [ unary main_arg1 main_v22 ((transpose S2x3x2048 [0, 2, 1] · transposes_S2x2048x3_S2x3x2048_0_2_1)),
    binary main_arg1 main_v22 main_v23 ((fun l r => Host.dotGeneral dot_S2x2048x3_S2x3x2048_S2x2048x2048_2_1_1_2_0_0 none l r)),
    binary main_arg1 main_arg1 main_v24 (mulf),
    nullary main_cst_3 (constant S_ .f32 0x00000000#32),
    binary main_v24 main_cst_3 main_v25 ((fun x v => Host.reduceAdd x v reducesTo_S2x2048x3_S2x2048_d2 h_S_)),
    nullary main_cst_4 (constant S_ .f32 0x40000000#32),
    unary main_cst_4 main_v26 (broadcastInDim S2x2048x2048 ![] bcast_S_S2x2048x2048),
    binary main_v26 main_v23 main_v27 (mulf),
    unary main_v25 main_v28 (broadcastInDim S2x2048x1 ![0, 1] bcast_S2x2048_S2x2048x1_0_1),
    unary main_v28 main_v29 (broadcastInDim S2x2048x2048 ![0, 1, 2] bcast_S2x2048x1_S2x2048x2048_0_1_2),
    binary main_v27 main_v29 main_v30 (subf),
    unary main_v25 main_v31 (broadcastInDim S2x1x2048 ![0, 2] bcast_S2x2048_S2x1x2048_0_2),
    unary main_v31 main_v32 (broadcastInDim S2x2048x2048 ![0, 1, 2] bcast_S2x1x2048_S2x2048x2048_0_1_2),
    binary main_v30 main_v32 main_v33 (subf),
    unary main_v33 main_values ((fun x => (Host.topK S2x2048x16 2 (FloatOps.cmpfTotal .gt) x sliceFits_S2x2048x2048_S2x2048x16).1)),
    unary main_v33 main_indices ((fun x => (Host.topK S2x2048x16 2 (FloatOps.cmpfTotal .gt) x sliceFits_S2x2048x2048_S2x2048x16).2)),
    nullary main_c_5 (constantI S_ 32 0#32),
    unary main_c_5 main_v34 (broadcastInDim S2x2048x16 ![] bcast_S_S2x2048x16),
    binary main_indices main_v34 main_v35 (cmpi .slt),
    nullary main_c_6 (constantI S_ 32 2048#32),
    unary main_c_6 main_v36 (broadcastInDim S2x2048x16 ![] bcast_S_S2x2048x16),
    binary main_indices main_v36 main_v37 (addi),
    ternary main_v35 main_v37 main_indices main_v38 (select),
    unary main_v38 main_v39 (broadcastInDim S2x2048x16x1 ![0, 1, 2] bcast_S2x2048x16_S2x2048x16x1_0_1_2),
    binary main_arg1 main_v39 main_v40 ((fun x i => Host.gather gather_S2x2048x3_S2x2048x16x1_S2x2048x16x3_3_1_0_0_1_3_113 x i)),
    unary main_arg1 main_v41 (broadcastInDim S2x2048x1x3 ![0, 1, 3] bcast_S2x2048x3_S2x2048x1x3_0_1_3),
    unary main_v41 main_v42 (broadcastInDim S2x2048x16x3 ![0, 1, 2, 3] bcast_S2x2048x1x3_S2x2048x16x3_0_1_2_3),
    binary main_v40 main_v42 main_v43 (subf),
    reshape main_v43 main_v44 (rfl : (.f32 : EltTy) = .f32) shapeCasts_S2x2048x16x3_S2x2048x48 ]

/-- The matched cloud's neighbour offsets. -/
abbrev matchedOps : List (HloOp τ sig (Elt F)) :=
  [ unary main_v21 main_v45 ((transpose S2x3x2048 [0, 2, 1] · transposes_S2x2048x3_S2x3x2048_0_2_1)),
    binary main_v21 main_v45 main_v46 ((fun l r => Host.dotGeneral dot_S2x2048x3_S2x3x2048_S2x2048x2048_2_1_1_2_0_0 none l r)),
    binary main_v21 main_v21 main_v47 (mulf),
    nullary main_cst_7 (constant S_ .f32 0x00000000#32),
    binary main_v47 main_cst_7 main_v48 ((fun x v => Host.reduceAdd x v reducesTo_S2x2048x3_S2x2048_d2 h_S_)),
    nullary main_cst_8 (constant S_ .f32 0x40000000#32),
    unary main_cst_8 main_v49 (broadcastInDim S2x2048x2048 ![] bcast_S_S2x2048x2048),
    binary main_v49 main_v46 main_v50 (mulf),
    unary main_v48 main_v51 (broadcastInDim S2x2048x1 ![0, 1] bcast_S2x2048_S2x2048x1_0_1),
    unary main_v51 main_v52 (broadcastInDim S2x2048x2048 ![0, 1, 2] bcast_S2x2048x1_S2x2048x2048_0_1_2),
    binary main_v50 main_v52 main_v53 (subf),
    unary main_v48 main_v54 (broadcastInDim S2x1x2048 ![0, 2] bcast_S2x2048_S2x1x2048_0_2),
    unary main_v54 main_v55 (broadcastInDim S2x2048x2048 ![0, 1, 2] bcast_S2x1x2048_S2x2048x2048_0_1_2),
    binary main_v53 main_v55 main_v56 (subf),
    unary main_v56 main_values_9 ((fun x => (Host.topK S2x2048x16 2 (FloatOps.cmpfTotal .gt) x sliceFits_S2x2048x2048_S2x2048x16).1)),
    unary main_v56 main_indices_10 ((fun x => (Host.topK S2x2048x16 2 (FloatOps.cmpfTotal .gt) x sliceFits_S2x2048x2048_S2x2048x16).2)),
    nullary main_c_11 (constantI S_ 32 0#32),
    unary main_c_11 main_v57 (broadcastInDim S2x2048x16 ![] bcast_S_S2x2048x16),
    binary main_indices_10 main_v57 main_v58 (cmpi .slt),
    nullary main_c_12 (constantI S_ 32 2048#32),
    unary main_c_12 main_v59 (broadcastInDim S2x2048x16 ![] bcast_S_S2x2048x16),
    binary main_indices_10 main_v59 main_v60 (addi),
    ternary main_v58 main_v60 main_indices_10 main_v61 (select),
    unary main_v61 main_v62 (broadcastInDim S2x2048x16x1 ![0, 1, 2] bcast_S2x2048x16_S2x2048x16x1_0_1_2),
    binary main_v21 main_v62 main_v63 ((fun x i => Host.gather gather_S2x2048x3_S2x2048x16x1_S2x2048x16x3_3_1_0_0_1_3_113 x i)),
    unary main_v21 main_v64 (broadcastInDim S2x2048x1x3 ![0, 1, 3] bcast_S2x2048x3_S2x2048x1x3_0_1_3),
    unary main_v64 main_v65 (broadcastInDim S2x2048x16x3 ![0, 1, 2, 3] bcast_S2x2048x1x3_S2x2048x16x3_0_1_2_3),
    binary main_v63 main_v65 main_v66 (subf),
    reshape main_v66 main_v67 (rfl : (.f32 : EltTy) = .f32) shapeCasts_S2x2048x16x3_S2x2048x48 ]

/-- The mean of the squared differences. -/
abbrev lossOps : List (HloOp τ sig (Elt F)) :=
  [ binary main_v67 main_v44 main_v68 (subf),
    binary main_v68 main_v68 main_v69 (mulf),
    nullary main_cst_13 (constant S_ .f32 0x00000000#32),
    binary main_v69 main_cst_13 main_v70 ((fun x v => Host.reduceAdd x v reducesTo_S2x2048x48_S_d0_1_2 h_S_)),
    nullary main_cst_14 (constant S_ .f32 0x48400000#32),
    binary main_v70 main_cst_14 main_v71 (Host.divf),
    nullary main_cst_15 (constant S_ .f32 0x3F800000#32),
    binary main_cst_15 main_v71 main_v72 (mulf) ]

/-- All of @main's operations. -/
abbrev mainOps : List (HloOp τ sig (Elt F)) := matchOps ++ (partialOps ++ (matchedOps ++ lossOps))

set_option maxHeartbeats 4000000 in
theorem main_ops (c : Dev nD) : main (F := F) c = seq mainOps := rfl

theorem no_scoped : (Finset.univ.filter fun b : Ref sig .tc => b.isScoped) = ∅ := by decide
theorem no_counter : (Finset.univ.filter fun sm : SemLoc sig => sm.isScoped .tc) = ∅ := by decide

theorem mainOps_fresh : ∀ op ∈ (mainOps : List (HloOp τ sig (Elt F))), op.fresh = ∅ := by
  refine List.forall_iff_forall_mem.mp ?_
  simp only [mainOps, matchOps, partialOps, matchedOps, lossOps, List.cons_append, List.nil_append, List.Forall]
  repeat' constructor

/-- Every run ends with every buffer at the operations' fold over the launch contents. -/
theorem ends (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after mainOps (launchContents m d) (Proc.devRef .tc b) :=
  run_seq no_scoped no_counter defs main (fun _ => mainOps) main_ops (fun _ => by simp) m ρ (fun _ => mainOps_fresh)

/-! ## The result -/

/-- The squared distances from each point of `y` to each point of `x`. -/
def dist (x : FVec F S2x8192x3 .f32) (y : FVec F S2x2048x3 .f32) : FVec F S2x2048x8192 .f32 :=
  subf (addf (broadcastInDim S2x2048x8192 ![0, 1, 2] bcast_S2x2048x1_S2x2048x8192_0_1_2 (broadcastInDim S2x2048x1 ![0, 1] bcast_S2x2048_S2x2048x1_0_1
      (Host.reduceAdd (mulf y y) (constant S_ .f32 0x00000000#32) reducesTo_S2x2048x3_S2x2048_d2 h_S_)))
    (broadcastInDim S2x2048x8192 ![0, 1, 2] bcast_S2x1x8192_S2x2048x8192_0_1_2 (broadcastInDim S2x1x8192 ![0, 2] bcast_S2x8192_S2x1x8192_0_2
      (Host.reduceAdd (mulf x x) (constant S_ .f32 0x00000000#32) reducesTo_S2x8192x3_S2x8192_d2 h_S_))))
    (mulf (broadcastInDim S2x2048x8192 ![] bcast_S_S2x2048x8192 (constant S_ .f32 0x40000000#32))
      (Host.dotGeneral dot_S2x2048x3_S2x3x8192_S2x2048x8192_2_1_1_2_0_0 none y (transpose S2x3x8192 [0, 2, 1] x transposes_S2x8192x3_S2x3x8192_0_2_1)))

/-- The index of the nearest. -/
def nearest (d : FVec F S2x2048x8192 .f32) : IVec S2x2048 32 := fun j =>
  (Host.argReduce reducer_argmin_f32_i32 d (iotaInDim S2x2048x8192 32 2) (constant S_ .f32 0x7F800000#32) (constantI S_ 32 0#32)
    reducesTo_S2x2048x8192_S2x2048_d2 h_S_ j).2

/-- A negative index counts from the end. -/
def wrapped (i : IVec S2x2048 32) : IVec S2x2048 32 :=
  select (cmpi .slt i (broadcastInDim S2x2048 ![] bcast_S_S2x2048 (constantI S_ 32 0#32)))
    (addi i (broadcastInDim S2x2048 ![] bcast_S_S2x2048 (constantI S_ 32 8192#32))) i

/-- The matched points. -/
def matched (x : FVec F S2x8192x3 .f32) (y : FVec F S2x2048x3 .f32) : FVec F S2x2048x3 .f32 :=
  Host.gather gather_S2x8192x3_S2x2048x1_S2x2048x3_2_1_0_0_1_2_113 x
    (broadcastInDim S2x2048x1 ![0, 1] bcast_S2x2048_S2x2048x1_0_1 (wrapped (nearest (dist x y))))

/-- Minus the squared distances within one cloud. -/
def nearness (p : FVec F S2x2048x3 .f32) : FVec F S2x2048x2048 .f32 :=
  subf (subf (mulf (broadcastInDim S2x2048x2048 ![] bcast_S_S2x2048x2048 (constant S_ .f32 0x40000000#32))
      (Host.dotGeneral dot_S2x2048x3_S2x3x2048_S2x2048x2048_2_1_1_2_0_0 none p (transpose S2x3x2048 [0, 2, 1] p transposes_S2x2048x3_S2x3x2048_0_2_1)))
    (broadcastInDim S2x2048x2048 ![0, 1, 2] bcast_S2x2048x1_S2x2048x2048_0_1_2 (broadcastInDim S2x2048x1 ![0, 1] bcast_S2x2048_S2x2048x1_0_1
      (Host.reduceAdd (mulf p p) (constant S_ .f32 0x00000000#32) reducesTo_S2x2048x3_S2x2048_d2 h_S_))))
    (broadcastInDim S2x2048x2048 ![0, 1, 2] bcast_S2x1x2048_S2x2048x2048_0_1_2 (broadcastInDim S2x1x2048 ![0, 2] bcast_S2x2048_S2x1x2048_0_2
      (Host.reduceAdd (mulf p p) (constant S_ .f32 0x00000000#32) reducesTo_S2x2048x3_S2x2048_d2 h_S_)))

/-- The sixteen nearest. -/
def neighbours (n : FVec F S2x2048x2048 .f32) : IVec S2x2048x16 32 :=
  (Host.topK S2x2048x16 2 (FloatOps.cmpfTotal .gt) n sliceFits_S2x2048x2048_S2x2048x16).2

/-- A negative index counts from the end. -/
def wrapped16 (i : IVec S2x2048x16 32) : IVec S2x2048x16 32 :=
  select (cmpi .slt i (broadcastInDim S2x2048x16 ![] bcast_S_S2x2048x16 (constantI S_ 32 0#32)))
    (addi i (broadcastInDim S2x2048x16 ![] bcast_S_S2x2048x16 (constantI S_ 32 2048#32))) i

/-- Each point's neighbours, relative to the point. -/
def offsets (p : FVec F S2x2048x3 .f32) : FVec F S2x2048x16x3 .f32 :=
  subf (Host.gather gather_S2x2048x3_S2x2048x16x1_S2x2048x16x3_3_1_0_0_1_3_113 p
      (broadcastInDim S2x2048x16x1 ![0, 1, 2] bcast_S2x2048x16_S2x2048x16x1_0_1_2 (wrapped16 (neighbours (nearness p)))))
    (broadcastInDim S2x2048x16x3 ![0, 1, 2, 3] bcast_S2x2048x1x3_S2x2048x16x3_0_1_2_3
      (broadcastInDim S2x2048x1x3 ![0, 1, 3] bcast_S2x2048x3_S2x2048x1x3_0_1_3 p))

/-- The mean of the squared differences of two families of offsets. -/
def mean (a b : FVec F S2x2048x48 .f32) : FVec F S_ .f32 :=
  mulf (constant S_ .f32 0x3F800000#32)
    (Host.divf (Host.reduceAdd (mulf (subf a b) (subf a b)) (constant S_ .f32 0x00000000#32) reducesTo_S2x2048x48_S_d0_1_2 h_S_)
      (constant S_ .f32 0x48400000#32))

/-- The reference's result. -/
def loss (x : FVec F S2x8192x3 .f32) (y : FVec F S2x2048x3 .f32) : FVec F S_ .f32 :=
  mean (shapeCast S2x2048x48 (offsets (matched x y)) shapeCasts_S2x2048x16x3_S2x2048x48)
    (shapeCast S2x2048x48 (offsets y) shapeCasts_S2x2048x16x3_S2x2048x48)

section
variable (V : Valuation τ sig (Elt F))

set_option maxHeartbeats 1600000 in
theorem at_matched : after matchOps V (Proc.devRef .tc main_v21)
    = matched (V (Proc.devRef .tc main_arg0)) (V (Proc.devRef .tc main_arg1)) := by
  after_results_simp
  rfl
set_option maxHeartbeats 1600000 in
theorem at_offsets : after partialOps V (Proc.devRef .tc main_v44)
    = shapeCast S2x2048x48 (offsets (V (Proc.devRef .tc main_arg1))) shapeCasts_S2x2048x16x3_S2x2048x48 := by
  after_results_simp
  rfl
set_option maxHeartbeats 1600000 in
theorem at_offsets' : after matchedOps V (Proc.devRef .tc main_v67)
    = shapeCast S2x2048x48 (offsets (V (Proc.devRef .tc main_v21))) shapeCasts_S2x2048x16x3_S2x2048x48 := by
  after_results_simp
  rfl
theorem at_loss : after lossOps V (Proc.devRef .tc main_v72)
    = mean (V (Proc.devRef .tc main_v67)) (V (Proc.devRef .tc main_v44)) := by
  after_results_simp
  rfl

/-- What the stretch writes. -/
abbrev matchOps_W : List (Ref sig .tc) := [main_v0, main_cst, main_v1, main_v2, main_cst_0, main_v3, main_v4, main_v5, main_v6, main_v7, main_v8, main_v9, main_v10, main_cst_1, main_v11, main_v12, main_v13, main_call0_v0, main_call0_cst, main_call0_c, main_call0_v1_0, main_v14, main_c, main_v15, main_v16, main_c_2, main_v17, main_v18, main_v19, main_v20, main_v21]
theorem matchOps_of {r : Ref sig .tc} (h : r ∉ matchOps_W) : after matchOps V (Proc.devRef .tc r) = V (Proc.devRef .tc r) :=
  after_of_writes_sub matchOps V (forall_writes_sub_of_map (W := matchOps_W) rfl) h

/-- What the stretch writes. -/
abbrev partialOps_W : List (Ref sig .tc) := [main_v22, main_v23, main_v24, main_cst_3, main_v25, main_cst_4, main_v26, main_v27, main_v28, main_v29, main_v30, main_v31, main_v32, main_v33, main_values, main_indices, main_c_5, main_v34, main_v35, main_c_6, main_v36, main_v37, main_v38, main_v39, main_v40, main_v41, main_v42, main_v43, main_v44]
theorem partialOps_of {r : Ref sig .tc} (h : r ∉ partialOps_W) : after partialOps V (Proc.devRef .tc r) = V (Proc.devRef .tc r) :=
  after_of_writes_sub partialOps V (forall_writes_sub_of_map (W := partialOps_W) rfl) h

/-- What the stretch writes. -/
abbrev matchedOps_W : List (Ref sig .tc) := [main_v45, main_v46, main_v47, main_cst_7, main_v48, main_cst_8, main_v49, main_v50, main_v51, main_v52, main_v53, main_v54, main_v55, main_v56, main_values_9, main_indices_10, main_c_11, main_v57, main_v58, main_c_12, main_v59, main_v60, main_v61, main_v62, main_v63, main_v64, main_v65, main_v66, main_v67]
theorem matchedOps_of {r : Ref sig .tc} (h : r ∉ matchedOps_W) : after matchedOps V (Proc.devRef .tc r) = V (Proc.devRef .tc r) :=
  after_of_writes_sub matchedOps V (forall_writes_sub_of_map (W := matchedOps_W) rfl) h

/-- What the stretch writes. -/
abbrev lossOps_W : List (Ref sig .tc) := [main_v68, main_v69, main_cst_13, main_v70, main_cst_14, main_v71, main_cst_15, main_v72]
theorem lossOps_of {r : Ref sig .tc} (h : r ∉ lossOps_W) : after lossOps V (Proc.devRef .tc r) = V (Proc.devRef .tc r) :=
  after_of_writes_sub lossOps V (forall_writes_sub_of_map (W := lossOps_W) rfl) h

theorem at_result : after mainOps V (Proc.devRef .tc main_v72) = loss (V (Proc.devRef .tc main_arg0)) (V (Proc.devRef .tc main_arg1)) := by
  rw [mainOps, after_append, after_append, after_append, at_loss, at_offsets', matchedOps_of _ (by decide), at_offsets,
    partialOps_of _ (by decide), at_matched, matchOps_of _ (by decide)]
  rfl
theorem at_arg {r : Ref sig .tc} (h : r = main_arg0 ∨ r = main_arg1) : after mainOps V (Proc.devRef .tc r) = V (Proc.devRef .tc r) := by
  rw [mainOps, after_append, after_append, after_append]
  rcases h with rfl | rfl <;>
    rw [lossOps_of _ (by decide), matchedOps_of _ (by decide), partialOps_of _ (by decide), matchOps_of _ (by decide)]
end

/-- The run, with the result as an expression of the arguments. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v72) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  θ_run_mono (ends m ρ) fun r h => ⟨fun c => ⟨(h c _).trans (at_result _), (h c _).trans (at_arg _ (.inl rfl)),
    (h c _).trans (at_arg _ (.inr rfl))⟩, by funext g; exact nomatch g.2⟩

end Cert.ReferenceIdeal.Knn

end
-- ==== Proof.Ranks.lean ====
/- Order facts about one row of extended reals: first minima and maxima, and the first indices of a stable
   descending sort as a sequence of repeated first maxima. -/
module

public import Idealize.ShloMosaic.Lib.SortFacts
public import Mathlib.Data.EReal.Operations

@[expose] public section

noncomputable section

namespace Cert.Knn

open Idealize.ShloMosaic

variable {n : ℕ}

/-- `j` is the first place where `f` is least. -/
def FirstMin (f : Fin n → EReal) (j : Fin n) : Prop := (∀ k, f j ≤ f k) ∧ ∀ k, k < j → f j < f k

theorem FirstMin.unique {f : Fin n → EReal} {i j : Fin n} (hi : FirstMin f i) (hj : FirstMin f j) : i = j := by
  rcases lt_trichotomy i j with h | h | h
  · exact absurd (hj.2 i h) (not_lt.2 (hi.1 j))
  · exact h
  · exact absurd (hi.2 j h) (not_lt.2 (hj.1 i))

theorem exists_firstMin [NeZero n] (f : Fin n → EReal) : ∃ j, FirstMin f j := by
  obtain ⟨m, -, hm⟩ := Finset.exists_min_image Finset.univ f ⟨⟨0, Nat.pos_of_ne_zero (NeZero.ne n)⟩, Finset.mem_univ _⟩
  let S := Finset.univ.filter fun k => f k = f m
  have hS : S.Nonempty := ⟨m, by simp [S]⟩
  refine ⟨S.min' hS, fun k => ?_, fun k hk => ?_⟩
  · have h := S.min'_mem hS
    simp only [S, Finset.mem_filter, Finset.mem_univ, true_and] at h
    rw [h]; exact hm k (Finset.mem_univ _)
  · have h := S.min'_mem hS
    simp only [S, Finset.mem_filter, Finset.mem_univ, true_and] at h
    rw [h]
    refine lt_of_le_of_ne (hm k (Finset.mem_univ _)) fun e => ?_
    exact absurd (S.min'_le k (by simp [S, e])) (not_le.2 hk)

/-- `j` is the first place where `f` is largest. -/
def FirstMax (f : Fin n → EReal) (j : Fin n) : Prop := (∀ k, f k ≤ f j) ∧ ∀ k, k < j → f k < f j

theorem FirstMax.unique {f : Fin n → EReal} {i j : Fin n} (hi : FirstMax f i) (hj : FirstMax f j) : i = j := by
  rcases lt_trichotomy i j with h | h | h
  · exact absurd (hj.2 i h) (not_lt.2 (hi.1 j))
  · exact h
  · exact absurd (hi.2 j h) (not_lt.2 (hj.1 i))

theorem exists_firstMax [NeZero n] (f : Fin n → EReal) : ∃ j, FirstMax f j := by
  obtain ⟨j, h⟩ := exists_firstMin fun k => -f k
  exact ⟨j, fun k => EReal.neg_le_neg_iff.1 (h.1 k), fun k hk => EReal.neg_lt_neg_iff.1 (h.2 k hk)⟩

/-- Among the places outside `T`, `j` is the first where `f` is largest. -/
def Best (f : Fin n → EReal) (T : Fin n → Prop) (j : Fin n) : Prop :=
  ¬ T j ∧ ∀ k, ¬ T k → f k ≤ f j ∧ (f k = f j → j ≤ k)

theorem Best.unique {f : Fin n → EReal} {T : Fin n → Prop} {i j : Fin n} (hi : Best f T i) (hj : Best f T j) : i = j := by
  have e : f i = f j := le_antisymm (hj.2 i hi.1).1 (hi.2 j hj.1).1
  exact le_antisymm ((hi.2 j hj.1).2 e.symm) ((hj.2 i hi.1).2 e)

theorem Best.congr {f : Fin n → EReal} {T T' : Fin n → Prop} {j : Fin n} (h : ∀ k, T k ↔ T' k) (hj : Best f T j) :
    Best f T' j := by
  have : T = T' := funext fun k => propext (h k)
  exact this ▸ hj

/-- The first maximum of a row, -/
def firstMax [NeZero n] (f : Fin n → EReal) : Fin n := Classical.choose (exists_firstMax f)
theorem firstMax_spec [NeZero n] (f : Fin n → EReal) : FirstMax f (firstMax f) := Classical.choose_spec (exists_firstMax f)
/-- the row after `r` of its largest places have been struck out, -/
def struck [NeZero n] (f : Fin n → EReal) : ℕ → Fin n → EReal
  | 0 => f
  | r + 1 => fun k => if k = firstMax (struck f r) then ⊥ else struck f r k
/-- and the place struck out next. -/
def picked [NeZero n] (f : Fin n → EReal) (r : ℕ) : Fin n := firstMax (struck f r)

theorem struck_succ [NeZero n] (f : Fin n → EReal) (r : ℕ) :
    struck f (r + 1) = fun k => if k = picked f r then ⊥ else struck f r k := rfl

theorem struck_eq [NeZero n] (f : Fin n → EReal) (r : ℕ) (k : Fin n) :
    ((∃ q, q < r ∧ picked f q = k) → struck f r k = ⊥) ∧ ((¬ ∃ q, q < r ∧ picked f q = k) → struck f r k = f k) := by
  induction r with
  | zero => exact ⟨fun ⟨q, hq, _⟩ => absurd hq (Nat.not_lt_zero q), fun _ => rfl⟩
  | succ r ih =>
    rw [struck_succ]
    by_cases hk : k = picked f r
    · refine ⟨fun _ => by simp [hk], fun h => absurd ⟨r, Nat.lt_succ_self r, hk.symm⟩ h⟩
    · simp only [if_neg hk]
      refine ⟨fun ⟨q, hq, e⟩ => ih.1 ⟨q, ?_, e⟩, fun h => ih.2 fun ⟨q, hq, e⟩ => h ⟨q, Nat.lt_succ_of_lt hq, e⟩⟩
      rcases Nat.lt_succ_iff_lt_or_eq.1 hq with h | h
      · exact h
      · exact absurd (h ▸ e).symm hk

/-- While a place remains and no entry is `⊥`, the place struck out next is the best of those that remain. -/
theorem picked_best [NeZero n] (f : Fin n → EReal) (hf : ∀ k, f k ≠ ⊥) (r : ℕ)
    (hr : ∃ k, ¬ ∃ q, q < r ∧ picked f q = k) : Best f (fun k => ∃ q, q < r ∧ picked f q = k) (picked f r) := by
  have hm := firstMax_spec (struck f r)
  change FirstMax (struck f r) (picked f r) at hm
  obtain ⟨k₀, hk₀⟩ := hr
  have hout : ¬ ∃ q, q < r ∧ picked f q = picked f r := fun h => by
    have h1 := hm.1 k₀
    rw [(struck_eq f r k₀).2 hk₀, (struck_eq f r _).1 h] at h1
    exact hf k₀ (le_bot_iff.1 h1)
  refine ⟨hout, fun k hk => ⟨?_, fun e => ?_⟩⟩
  · have h1 := hm.1 k
    rwa [(struck_eq f r k).2 hk, (struck_eq f r _).2 hout] at h1
  · by_contra hlt
    have h1 := hm.2 k (not_le.1 hlt)
    rw [(struck_eq f r k).2 hk, (struck_eq f r _).2 hout] at h1
    exact absurd e (ne_of_lt h1)

/-- The descending order, and its refinement by the place. -/
def above (f : Fin n → EReal) (a b : Fin n) : Bool := decide (f b < f a)
def ahead (f : Fin n → EReal) (a b : Fin n) : Bool := decide (f b < f a ∨ (f a = f b ∧ a < b))

theorem stableSort_above (f : Fin n → EReal) : ∀ l : List (Fin n), l.Pairwise (· < ·) →
    stableSort (above f) l = stableSort (ahead f) l
  | [], _ => rfl
  | a :: l, h => by
    have hl := List.pairwise_cons.1 h
    rw [stableSort, stableSort, stableSort_above f l hl.2]
    refine insertBefore_congr _ _ a _ fun b hb => ?_
    have hab : a < b := hl.1 b ((perm_stableSort (ahead f) l).mem_iff.1 hb)
    simp only [above, ahead, decide_eq_decide]
    exact ⟨Or.inl, fun h => h.resolve_right fun h' => absurd h'.2 (not_lt.2 hab.le)⟩

theorem sortedFrom_above (f : Fin n → EReal) : sortedFrom (above f) = sortedFrom (ahead f) := by
  have h : sortPositions n (above f) = sortPositions n (ahead f) := stableSort_above f _ (List.pairwise_lt_finRange n)
  funext k
  unfold sortedFrom
  simp only [List.get_eq_getElem, h, Fin.val_cast]

/-- What a stable descending sort puts at a place is the best of what is left after the places before. -/
theorem sorted_best (f : Fin n → EReal) (r : Fin n) :
    Best f (fun k => ∃ q, q < r ∧ sortedFrom (above f) q = k) (sortedFrom (above f) r) := by
  rw [sortedFrom_above]
  have inj := sortedFrom_injective (ahead f)
  refine ⟨fun ⟨q, hq, e⟩ => absurd (inj e) (ne_of_lt hq), fun k hk => ?_⟩
  obtain ⟨q, rfl⟩ := sortedFrom_surjective (ahead f) k
  have hrq : r ≤ q := not_lt.1 fun h => hk ⟨q, h, rfl⟩
  rcases eq_or_lt_of_le hrq with rfl | hlt
  · exact ⟨le_rfl, fun _ => le_rfl⟩
  have hno := sortedFrom_noInversion (ahead f) (ahead f)
    (fun a b h => by
      simp only [ahead, decide_eq_true_eq, decide_eq_false_iff_not] at h ⊢
      rintro (h' | ⟨h', h''⟩)
      · rcases h with h | ⟨h, _⟩
        · exact absurd h (not_lt.2 h'.le)
        · exact absurd h' (by rw [h]; exact lt_irrefl _)
      · rcases h with h | ⟨_, h⟩
        · exact absurd h (by rw [h']; exact lt_irrefl _)
        · exact absurd h (not_lt.2 h''.le))
    (fun a b h => h)
    (fun a b c h1 h2 => by
      simp only [ahead, decide_eq_false_iff_not, not_or, not_and, not_lt] at h1 h2 ⊢
      refine ⟨?_, fun e => ?_⟩
      · first | exact h1.1.trans h2.1 | exact h2.1.trans h1.1
      · have e1 : f a = f b := by first | exact le_antisymm (by rw [e]; exact h2.1) h1.1 | exact le_antisymm h1.1 (by rw [e]; exact h2.1) | exact le_antisymm (e ▸ h2.1) h1.1
        have e2 : f b = f c := e1.symm.trans e
        first | exact (h2.2 e2).trans (h1.2 e1) | exact (h1.2 e1).trans (h2.2 e2))
    r q hlt
  simp only [ahead, decide_eq_false_iff_not, not_or, not_and, not_lt] at hno
  exact ⟨hno.1, fun e => hno.2 e⟩

/-- So the places struck out in turn are the first places of a stable descending sort. -/
theorem picked_eq_sorted [NeZero n] (f : Fin n → EReal) (hf : ∀ k, f k ≠ ⊥) (r : Fin n) :
    picked f r = sortedFrom (above f) r := by
  obtain ⟨r, hr⟩ := r
  induction r using Nat.strong_induction_on with
  | _ r ih =>
    have hs := sorted_best f ⟨r, hr⟩
    have hT : ∀ k, (∃ q, q < (⟨r, hr⟩ : Fin n) ∧ sortedFrom (above f) q = k) ↔ ∃ q, q < r ∧ picked f q = k := fun k =>
      ⟨fun ⟨q, hq, e⟩ => ⟨q, hq, (ih q hq q.2).trans e⟩,
       fun ⟨q, hq, e⟩ => ⟨⟨q, hq.trans hr⟩, hq, (ih q hq (hq.trans hr)).symm.trans e⟩⟩
    exact (picked_best f hf r ⟨_, fun h => hs.1 ((hT _).2 h)⟩).unique (hs.congr hT)

end Cert.Knn

end
-- ==== Proof.Rows.lean ====
/- Row reductions read at the extended reals: the index of a first extremum as a minimum of words, a one-hot row
   times a table, one lane picked by a maximum, and a running minimum over chunks. -/
module

public import proofs.«01_k».proof.Proof.Ranks
public import Idealize.ShloMosaic.PureOps.Ideal.Laws
public import Idealize.ShloMosaic.Lib.WordCmp

@[expose] public section

noncomputable section

namespace Cert.Knn

open Idealize.ShloMosaic

variable {n : ℕ}

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- A minimum over a row is the entry at a least place, -/
theorem fold_min_eq {f : Fin n → EReal} {j : Fin n} (h : ∀ k, f j ≤ f k) :
    Finset.univ.fold min (Ideal.ofBits .f32 0x7F800000#32) f = f j := by
  rw [ofBits_top]
  exact le_antisymm (Finset.fold_min_le _ |>.2 (.inr ⟨j, Finset.mem_univ _, le_rfl⟩))
    (Finset.le_fold_min _ |>.2 ⟨le_top, fun k _ => h k⟩)
/-- and a maximum the entry at a largest one. -/
theorem fold_max_eq {f : Fin n → EReal} {j : Fin n} (h : ∀ k, f k ≤ f j) :
    Finset.univ.fold max (Ideal.ofBits .f32 0xFF800000#32) f = f j := by
  rw [ofBits_bot]
  exact le_antisymm (Finset.fold_max_le _ |>.2 ⟨bot_le, fun k _ => h k⟩)
    (Finset.le_fold_max _ |>.2 (.inr ⟨j, Finset.mem_univ _, le_rfl⟩))

theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- A least word of a row is its minimum. -/
theorem fold_minsi_eq {f : Fin n → BitVec 32} {j : Fin n} (h : ∀ k, (f j).toInt ≤ (f k).toInt) :
    Finset.univ.fold IntOp.minsi (2147483647#32) f = f j := by
  apply BitVec.eq_of_toInt_eq
  have e : (Finset.univ.fold IntOp.minsi (2147483647#32) f).toInt
      = Finset.univ.fold min (2147483647#32 : BitVec 32).toInt fun k => (f k).toInt :=
    (Finset.fold_hom (op := IntOp.minsi) (op' := min) (m := fun w : BitVec 32 => w.toInt)
      (fun a b => toInt_minsi a b)).symm
  rw [e]
  refine le_antisymm (Finset.fold_min_le _ |>.2 (.inr ⟨j, Finset.mem_univ _, le_rfl⟩))
    (Finset.le_fold_min _ |>.2 ⟨?_, fun k _ => h k⟩)
  have h1 := BitVec.toInt_lt (x := f j)
  have h2 : (2147483647#32 : BitVec 32).toInt = 2147483647 := by decide
  omega

theorem toInt_ofNat {a : ℕ} (h : a < 2 ^ 31) : (BitVec.ofNat 32 a).toInt = (a : Int) := WordCmp.toInt_ofNat_of_lt h

/-- The first place with a property, as the least of the words of the places that have it; the others count `2048`. -/
theorem fold_first {g : Fin n → ℕ} {c : Fin n → Prop} [∀ k, Decidable (c k)] {j : Fin n} (hg : ∀ k, g k < 2048)
    (hj : c j) (h : ∀ k, c k → g j ≤ g k) :
    Finset.univ.fold IntOp.minsi (2147483647#32) (fun k => if c k then BitVec.ofNat 32 (g k) else 2048#32)
      = BitVec.ofNat 32 (g j) := by
  have e : (fun k => if c k then BitVec.ofNat 32 (g k) else 2048#32) j = BitVec.ofNat 32 (g j) := if_pos hj
  rw [← e]
  refine fold_minsi_eq fun k => ?_
  rw [if_pos hj, toInt_ofNat (by have := hg j; omega)]
  by_cases hk : c k
  · rw [if_pos hk, toInt_ofNat (by have := hg k; omega)]; exact_mod_cast h k hk
  · rw [if_neg hk, show (2048#32 : BitVec 32).toInt = 2048 by decide]; have := hg j; omega

/-- A row with a one where the place is the word `w`, and zeros elsewhere, times a column is the column's entry there. -/
theorem onehot_sum {w : BitVec 32} {j : Fin n} (hn : n ≤ 2 ^ 31) (hw : w = BitVec.ofNat 32 j) (v : Fin n → EReal) :
    (∑ x : Fin n, FloatOps.sitofp (F := Ideal) .f32 (BitVec.setWidth 32 (IntOp.cmpi .eq (BitVec.ofNat 32 x) w)) * v x : EReal) = v j := by
  have hj := j.isLt
  rw [Finset.sum_eq_single j]
  · rw [hw, WordCmp.cmpi_eq_ofNat (by omega) (by omega)]
    show (((BitVec.setWidth 32 (BitVec.ofBool (decide ((j : ℕ) = j)))).toInt : ℝ) : EReal) * v j = v j
    simp
  · intro x _ hx
    have hxl := x.isLt
    rw [hw, WordCmp.cmpi_eq_ofNat (by omega) (by omega)]
    show (((BitVec.setWidth 32 (BitVec.ofBool (decide ((x : ℕ) = j)))).toInt : ℝ) : EReal) * v x = 0
    rw [decide_eq_false (fun e => hx (Fin.ext e))]
    simp
  · exact fun h => absurd (Finset.mem_univ j) h

/-- A maximum over lanes of which all but one hold `⊥` is the entry of that lane. -/
theorem lane_max {w : BitVec 32} {j : Fin n} (hn : n ≤ 2 ^ 31) (hw : w = BitVec.ofNat 32 j) (v : Fin n → EReal) (b : EReal)
    (hb : b = ⊥) :
    Finset.univ.fold max (Ideal.ofBits .f32 0xFF800000#32)
      (fun x : Fin n => Scalar.select (IntOp.cmpi .eq (BitVec.ofNat 32 x) w) (v x) b) = v j := by
  have hj := j.isLt
  have key : ∀ x : Fin n, Scalar.select (IntOp.cmpi .eq (BitVec.ofNat 32 x) w) (v x) b = if x = j then v x else ⊥ := fun x => by
    have hxl := x.isLt
    rw [hw, WordCmp.cmpi_eq_ofNat (by omega) (by omega), WordCmp.select_ofBool, hb]
    simp only [decide_eq_true_eq, Fin.ext_iff]
  simp only [key]
  refine (fold_max_eq (f := fun x => if x = j then v x else ⊥) (j := j) fun k => ?_).trans (if_pos rfl)
  by_cases hk : k = j
  · rw [hk]
  · rw [if_neg hk]; exact bot_le

/-- After the first `N` places: the least entry, and the word of its first place. -/
def UptoMin (f : Fin n → EReal) (N : ℕ) (m : EReal) (w : BitVec 32) : Prop :=
  ∃ j : Fin n, j.val < N ∧ w = BitVec.ofNat 32 j ∧ m = f j ∧ (∀ k : Fin n, k.val < N → f j ≤ f k) ∧ ∀ k, k < j → f j < f k

theorem UptoMin.firstMin {f : Fin n → EReal} {m : EReal} {w : BitVec 32} (h : UptoMin f n m w) :
    ∃ j, FirstMin f j ∧ w = BitVec.ofNat 32 j := by
  obtain ⟨j, _, hw, _, h1, h2⟩ := h
  exact ⟨j, ⟨fun k => h1 k k.isLt, h2⟩, hw⟩

/-- The first chunk, against `⊤`. -/
theorem UptoMin.first {f : Fin n → EReal} {T : ℕ} (hT : T ≤ n) (h0 : 0 < T) {j : Fin T}
    (hj : FirstMin (fun x : Fin T => f ⟨x, x.isLt.trans_le hT⟩) j) (z : BitVec 32) (hz : z = 0#32) :
    UptoMin f T (if f ⟨j, j.isLt.trans_le hT⟩ < ⊤ then f ⟨j, j.isLt.trans_le hT⟩ else ⊤)
      (if f ⟨j, j.isLt.trans_le hT⟩ < ⊤ then IntOp.addi (BitVec.ofNat 32 j) 0#32 else z) := by
  subst hz
  by_cases h : f ⟨j, j.isLt.trans_le hT⟩ < ⊤
  · rw [if_pos h, if_pos h]
    exact ⟨⟨j, j.isLt.trans_le hT⟩, j.isLt, by simp [IntOp.addi], rfl, fun k hk => hj.1 ⟨k, hk⟩, fun k hk => hj.2 ⟨k, lt_trans hk j.isLt⟩ hk⟩
  · rw [if_neg h, if_neg h]
    have e : f ⟨j, j.isLt.trans_le hT⟩ = ⊤ := not_lt_top_iff.1 h
    have all : ∀ k : Fin n, k.val < T → f k = ⊤ := fun k hk => top_le_iff.1 (e ▸ hj.1 ⟨k, hk⟩)
    refine ⟨⟨0, h0.trans_le hT⟩, h0, rfl, (all _ h0).symm, fun k hk => ?_, fun k hk => absurd hk (Nat.not_lt_zero k.val)⟩
    rw [all _ h0, all k hk]

/-- A later chunk, against the least entry so far. -/
theorem UptoMin.step {f : Fin n → EReal} {N T : ℕ} (hT : N + T ≤ n) {m : EReal} {w : BitVec 32} (hu : UptoMin f N m w) {j : Fin T}
    (hj : FirstMin (fun x : Fin T => f ⟨N + x, (Nat.add_lt_add_left x.isLt N).trans_le hT⟩) j) (z : BitVec 32) (hz : z = BitVec.ofNat 32 N) :
    UptoMin f (N + T) (if f ⟨N + j, (Nat.add_lt_add_left j.isLt N).trans_le hT⟩ < m then f ⟨N + j, (Nat.add_lt_add_left j.isLt N).trans_le hT⟩ else m)
      (if f ⟨N + j, (Nat.add_lt_add_left j.isLt N).trans_le hT⟩ < m then IntOp.addi (BitVec.ofNat 32 j) z else w) := by
  subst hz
  have split : ∀ k : Fin n, k.val < N + T → k.val < N ∨ ∃ x : Fin T, k = ⟨N + x, (Nat.add_lt_add_left x.isLt N).trans_le hT⟩ := fun k hk => by
    by_cases h : k.val < N
    · exact .inl h
    · exact .inr ⟨⟨k - N, by omega⟩, Fin.ext (by simp only []; omega)⟩
  obtain ⟨i, hi, hw, hm, h1, h2⟩ := hu
  by_cases h : f ⟨N + j, (Nat.add_lt_add_left j.isLt N).trans_le hT⟩ < m
  · rw [if_pos h, if_pos h]
    refine ⟨⟨N + j, _⟩, Nat.add_lt_add_left j.isLt N, by
      show BitVec.ofNat 32 j + BitVec.ofNat 32 N = BitVec.ofNat 32 (N + j); rw [BitVec.ofNat_add, BitVec.add_comm], rfl, fun k hk => ?_, fun k hk => ?_⟩
    · rcases split k hk with hk | ⟨x, rfl⟩
      · exact (h.trans_le (hm.trans_le (h1 k hk))).le
      · exact hj.1 x
    · rcases split k (lt_trans hk (Nat.add_lt_add_left j.isLt N)) with hk' | ⟨x, rfl⟩
      · exact h.trans_le (hm.trans_le (h1 k hk'))
      · exact hj.2 x (by have : N + x.val < N + j.val := hk; exact Fin.lt_def.2 (by omega))
  · rw [if_neg h, if_neg h]
    refine ⟨i, hi.trans_le (Nat.le_add_right N T), hw, hm, fun k hk => ?_, h2⟩
    rcases split k hk with hk | ⟨x, rfl⟩
    · exact h1 k hk
    · exact (hm ▸ not_lt.1 h).trans (hj.1 x)

end Cert.Knn

end
-- ==== Proof.Nearest.lean ====
/- The first body's value: for each row, the completed point nearest to it, out of the grouped tables. -/
module

public import proofs.«01_k».proof.Proof.KernelIdealBody
public import proofs.«01_k».proof.Proof.Rows
public import Idealize.ShloMosaic.Lib.Pointwise
public import Idealize.ShloMosaic.Lib.ValueLayout

@[expose] public section

set_option maxRecDepth 16384

noncomputable section

namespace Cert.KernelIdeal.Knn

open Idealize.ShloMosaic Idealize.ShloMosaic.TcCoe
open Cert.KernelIdeal.Gen Cert.Knn

/-- The squared distance of two points, as the body computes it. -/
def sqDist (a b : Fin 3 → EReal) : EReal :=
  a 0 * a 0 + a 1 * a 1 + a 2 * a 2 + (b 0 * b 0 + b 1 * b 1 + b 2 * b 2) - Ideal.ofBits .f32 1073741824#32 * ∑ x : Fin 3, a x * b x

section Rows
variable (p : Vec Ideal S1x512x3 .f32) (q : Vec Ideal S1x3x2048 .f32) (i : Fin 512)

/-- A row of one chunk. -/
def chunk (k : Fin 2048) : EReal := sqDist (fun d => p (ix3 0 i d)) (fun d => q (ix3 0 d k))

theorem pay5_at (k : Fin 2048) : k0_pay5 (F := Ideal) p q (ix2 i k) = chunk p q i k := by
  pointwise [k0_pay5, k0_pay3, k0_pay2, chunk, sqDist]
theorem pay10_at (k : Fin 2048) : k0_pay10 (F := Ideal) (k0_pay2 p) (k0_pay3 p) q (ix2 i k) = chunk p q i k := by
  pointwise [k0_pay10, k0_pay3, k0_pay2, chunk, sqDist]
theorem pay15_at (k : Fin 2048) : k0_pay15 (F := Ideal) (k0_pay2 p) (k0_pay3 p) q (ix2 i k) = chunk p q i k := by
  pointwise [k0_pay15, k0_pay3, k0_pay2, chunk, sqDist]

variable {j : Fin 2048} (hj : FirstMin (chunk p q i) j)
include hj

theorem pay6_at : k0_pay6 (F := Ideal) p q (ix2 i 0) = chunk p q i j := by
  pointwise [k0_pay6, pay5_at]
  exact fold_min_eq hj.1
theorem pay11_at : k0_pay11 (F := Ideal) (k0_pay2 p) (k0_pay3 p) q (ix2 i 0) = chunk p q i j := by
  pointwise [k0_pay11, pay10_at]
  exact fold_min_eq hj.1

theorem word_at : Finset.univ.fold IntOp.minsi (2147483647#32)
    (fun x : Fin 2048 => if chunk p q i x = chunk p q i j then BitVec.ofNat 32 x else 2048#32) = BitVec.ofNat 32 j :=
  fold_first (g := fun x : Fin 2048 => x.val) (fun k => k.isLt) rfl fun k hk => not_lt.1 fun h => ne_of_lt (hj.2 k h) hk.symm

theorem pay8_at : k0_pay8 (F := Ideal) p q (ix2 i 0) = if chunk p q i j < ⊤ then chunk p q i j else ⊤ := by
  pointwise [k0_pay8, k0_pay7, k0_pay4, pay6_at p q i hj]
  rfl
theorem pay9_at : k0_pay9 (F := Ideal) p q (ix2 i 0)
    = if chunk p q i j < ⊤ then IntOp.addi (BitVec.ofNat 32 j) 0#32 else 0#32 := by
  pointwise [k0_pay9, k0_pay7, k0_pay4, pay6_at p q i hj, pay5_at]
  rw [word_at p q i hj]
  rfl

theorem pay13_at (v : FVec Ideal S512x1 .f32) : k0_pay13 (F := Ideal) (k0_pay2 p) (k0_pay3 p) v q (ix2 i 0)
    = if chunk p q i j < v (ix2 i 0) then chunk p q i j else v (ix2 i 0) := by
  pointwise [k0_pay13, k0_pay12, pay11_at p q i hj]
theorem pay14_at (v : FVec Ideal S512x1 .f32) (w : IVec S512x1 32) : k0_pay14 (F := Ideal) (k0_pay2 p) (k0_pay3 p) lanes0 v w q (ix2 i 0)
    = if chunk p q i j < v (ix2 i 0) then IntOp.addi (BitVec.ofNat 32 j) 2048#32 else w (ix2 i 0) := by
  pointwise [k0_pay14, k0_pay12, lanes0, pay11_at p q i hj, pay10_at]
  rw [word_at p q i hj]
end Rows

/-- A chunk's smallest distances, -/
def least (d : FVec Ideal S512x2048 .f32) : FVec Ideal S512x1 .f32 :=
  shapeCast S512x1 (multiReduction .minimumf [1] S512 d 0x7F800000#32 reduces_S512x2048_S512 (.inl rfl) rfl) shapeCasts_S512_S512x1
/-- the smaller of those and the smallest so far, -/
def lesser (d : FVec Ideal S512x2048 .f32) (v : FVec Ideal S512x1 .f32) : FVec Ideal S512x1 .f32 :=
  select (cmpf .olt (least d) v) (least d) v
/-- and where the smaller lies, the chunk's places counted from `z`. -/
def place (d : FVec Ideal S512x2048 .f32) (v : FVec Ideal S512x1 .f32) (z : BitVec 32) (w : IVec S512x1 32) : IVec S512x1 32 :=
  select (cmpf .olt (least d) v)
    (addi (shapeCast S512x1 (multiReductionI .minsi [1] S512
      (select (cmpf .oeq d (broadcastTo S512x2048 (least d) broadcasts_S512x1_S512x2048)) lanes0 (broadcast S512x2048 2048#32))
      2147483647#32 reduces_S512x2048_S512 rfl) shapeCasts_S512_S512x1) (broadcast S512x1 z)) w

/-- The last two chunks are two such steps. -/
theorem pay16_eq (v1 : FVec Ideal S512x3 .f32) (v9 : FVec Ideal S512x1 .f32) (v : FVec Ideal S512x1 .f32) (w : IVec S512x1 32)
    (d : FVec Ideal S512x2048 .f32) (q3 : Vec Ideal S1x3x2048 .f32) :
    k0_pay16 (F := Ideal) v1 v9 lanes0 v w d q3 = place (k0_pay10 v1 v9 q3) (lesser d v) 6144#32 (place d v 4096#32 w) := rfl

section Place
variable {d : FVec Ideal S512x2048 .f32} {i : Fin 512} {f : Fin 2048 → EReal} (hd : ∀ k : Fin 2048, d (ix2 i k) = f k) {j : Fin 2048}
  (hj : FirstMin f j)
include hd hj

theorem least_at : least d (ix2 i 0) = f j := by
  pointwise [least, hd]
  exact fold_min_eq hj.1
theorem lesser_at (v : FVec Ideal S512x1 .f32) : lesser d v (ix2 i 0) = if f j < v (ix2 i 0) then f j else v (ix2 i 0) := by
  pointwise [lesser, least_at hd hj]
theorem place_at (v : FVec Ideal S512x1 .f32) (z : BitVec 32) (w : IVec S512x1 32) : place d v z w (ix2 i 0)
    = if f j < v (ix2 i 0) then IntOp.addi (BitVec.ofNat 32 j) z else w (ix2 i 0) := by
  pointwise [place, least_at hd hj, hd, lanes0]
  rw [fold_first (c := fun k => f k = f j) (g := fun x : Fin 2048 => x.val) (j := j) (fun k => k.isLt) rfl fun k hk => not_lt.1 fun h => ne_of_lt (hj.2 k h) hk.symm]
end Place

theorem pay16_at (p : Vec Ideal S1x512x3 .f32) (q2 q3 : Vec Ideal S1x3x2048 .f32) (i : Fin 512) {j2 j3 : Fin 2048}
    (h2 : FirstMin (chunk p q2 i) j2) (h3 : FirstMin (chunk p q3 i) j3) (v : FVec Ideal S512x1 .f32) (w : IVec S512x1 32) :
    k0_pay16 (F := Ideal) (k0_pay2 p) (k0_pay3 p) lanes0 v w (k0_pay15 (k0_pay2 p) (k0_pay3 p) q2) q3 (ix2 i 0)
    = if chunk p q3 i j3 < (if chunk p q2 i j2 < v (ix2 i 0) then chunk p q2 i j2 else v (ix2 i 0))
      then IntOp.addi (BitVec.ofNat 32 j3) 6144#32
      else if chunk p q2 i j2 < v (ix2 i 0) then IntOp.addi (BitVec.ofNat 32 j2) 4096#32 else w (ix2 i 0) := by
  rw [pay16_eq, place_at (pay10_at p q3 i) h3, lesser_at (pay15_at p q2 i) h2, place_at (pay15_at p q2 i) h2]

/-- The index of the nearest completed point. -/
theorem near_at (p : Vec Ideal S1x512x3 .f32) (q0 q1 q2 q3 : Vec Ideal S1x3x2048 .f32) (i : Fin 512) (X : Fin 8192 → Fin 3 → EReal)
    (h0 : ∀ (k : Fin 2048) (d : Fin 3), q0 (ix3 0 d k) = X ⟨k, by omega⟩ d) (h1 : ∀ (k : Fin 2048) (d : Fin 3), q1 (ix3 0 d k) = X ⟨2048 + k, by omega⟩ d)
    (h2 : ∀ (k : Fin 2048) (d : Fin 3), q2 (ix3 0 d k) = X ⟨4096 + k, by omega⟩ d) (h3 : ∀ (k : Fin 2048) (d : Fin 3), q3 (ix3 0 d k) = X ⟨6144 + k, by omega⟩ d) :
    ∃ j : Fin 8192, FirstMin (fun k => sqDist (fun d => p (ix3 0 i d)) (X k)) j ∧ near p q0 q1 q2 q3 (ix2 i 0) = BitVec.ofNat 32 j := by
  have c0 : ∀ k : Fin 2048, chunk p q0 i k = sqDist (fun d => p (ix3 0 i d)) (X ⟨k, by omega⟩) := fun k => by
    unfold chunk; simp only [h0]
  have c1 : ∀ k : Fin 2048, chunk p q1 i k = sqDist (fun d => p (ix3 0 i d)) (X ⟨2048 + k, by omega⟩) := fun k => by
    unfold chunk; simp only [h1]
  have c2 : ∀ k : Fin 2048, chunk p q2 i k = sqDist (fun d => p (ix3 0 i d)) (X ⟨4096 + k, by omega⟩) := fun k => by
    unfold chunk; simp only [h2]
  have c3 : ∀ k : Fin 2048, chunk p q3 i k = sqDist (fun d => p (ix3 0 i d)) (X ⟨6144 + k, by omega⟩) := fun k => by
    unfold chunk; simp only [h3]
  obtain ⟨j0, m0⟩ := exists_firstMin (chunk p q0 i)
  obtain ⟨j1, m1⟩ := exists_firstMin (chunk p q1 i)
  obtain ⟨j2, m2⟩ := exists_firstMin (chunk p q2 i)
  obtain ⟨j3, m3⟩ := exists_firstMin (chunk p q3 i)
  have u0 := UptoMin.first (n := 8192) (f := fun k => sqDist (fun d => p (ix3 0 i d)) (X k)) (T := 2048) (by omega) (by omega)
    (j := j0) (by have := m0; rwa [funext c0] at this) 0#32 rfl
  have u1 := u0.step (N := 2048) (T := 2048) (by omega) (j := j1) (by have := m1; rwa [funext c1] at this) 2048#32 rfl
  have u2 := u1.step (N := 4096) (T := 2048) (by omega) (j := j2) (by have := m2; rwa [funext c2] at this) 4096#32 rfl
  have u3 := u2.step (N := 6144) (T := 2048) (by omega) (j := j3) (by have := m3; rwa [funext c3] at this) 6144#32 rfl
  obtain ⟨j, hj, hw⟩ := u3.firstMin
  refine ⟨j, hj, Eq.trans ?_ hw⟩
  unfold near
  rw [pay16_at p q2 q3 i m2 m3, pay14_at p q1 i m1, pay13_at p q1 i m1, pay8_at p q0 i m0, pay9_at p q0 i m0, c0, c1, c2, c3]

end Cert.KernelIdeal.Knn

end
-- ==== Proof.Taken.lean ====
/- A point read out of the grouped tables at a place: the table row by one-hot products, the lane by a masked maximum. -/
module

public import proofs.«01_k».proof.Proof.KernelIdealBody
public import proofs.«01_k».proof.Proof.Rows
public import Idealize.ShloMosaic.Lib.Pointwise
public import Idealize.ShloMosaic.Lib.ValueLayout

@[expose] public section

set_option maxRecDepth 16384

noncomputable section

namespace Cert.KernelIdeal.Knn

open Idealize.ShloMosaic Idealize.ShloMosaic.TcCoe
open Cert.KernelIdeal.Gen Cert.Knn

theorem shrsi_seven {j : ℕ} (h : j < 8192) : IntOp.shrsi ArithUnit.vector (BitVec.ofNat 32 j) 7#32 = BitVec.ofNat 32 (j / 128) := by
  have e : ∀ k : Fin 8192, IntOp.shrsi ArithUnit.vector (BitVec.ofNat 32 k) 7#32 = BitVec.ofNat 32 (k / 128) := by decide +kernel
  exact e ⟨j, h⟩
theorem andi_low {j : ℕ} (h : j < 8192) : IntOp.andi (BitVec.ofNat 32 j) 127#32 = BitVec.ofNat 32 (j % 128) := by
  have e : ∀ k : Fin 8192, IntOp.andi (BitVec.ofNat 32 k) 127#32 = BitVec.ofNat 32 (k % 128) := by decide +kernel
  exact e ⟨j, h⟩

/-! The first body reads 512 points out of 64 rows. -/

/-- The one-hot rows of the table rows wanted, -/
def rowHot0 (hi : IVec S512x1 32) : FVec Ideal S512x64 .bf16 :=
  truncf .bf16 (sitofp .f32 (extui 32 (cmpi .eq (iota .tc S512x64 32 [1] iota_S512x64_d1_w32)
    (broadcastTo S512x64 hi broadcasts_S512x1_S512x64)) natLt_1_32)) bitsLt_bf16_f32
/-- one table's rows, -/
def tableRow0 (hi : IVec S512x1 32) (a : FVec Ideal S64x384 .bf16) : FVec Ideal S512x384 .f32 :=
  matmul dot_S512x64_S64x384_S512x384_1_0_0_1_n_n none (rowHot0 hi) a (constant S512x384 .f32 0x00000000#32)
/-- one lane of a block of 128, -/
def laneOf0 (s : FVec Ideal S512x128 .f32) (lo : IVec S512x1 32) : FVec Ideal S512x1 .f32 :=
  shapeCast S512x1 (multiReduction .maximumf [1] S512
    (select (cmpi .eq (iota .tc S512x128 32 [1] iota_S512x128_d1_w32) (broadcastTo S512x128 lo broadcasts_S512x1_S512x128)) s
      (broadcast S512x128 (Named.named κ "neg_big" 0xFF61B1E6#32)))
    0xFF800000#32 reduces_S512x128_S512 (.inl rfl) rfl) shapeCasts_S512_S512x1
/-- the same lane of three blocks. -/
def lanesOf0 (t : FVec Ideal S512x384 .f32) (lo : IVec S512x1 32) : FVec Ideal S512x3 .f32 :=
  concatenate S512x3 1
    [⟨S512x1, laneOf0 (extractStridedSlice S512x128 ![0, 0] t slices_S512x384_o0_0_S512x128) lo⟩,
     ⟨S512x1, laneOf0 (extractStridedSlice S512x128 ![0, 128] t slices_S512x384_o0_128_S512x128) lo⟩,
     ⟨S512x1, laneOf0 (extractStridedSlice S512x128 ![0, 256] t slices_S512x384_o0_256_S512x128) lo⟩]
    concatenates_S512x1_S512x1_S512x1_S512x3_d1
/-- The points at the places `w`. -/
def taken0 (w : IVec S512x1 32) (a b c : FVec Ideal S64x384 .bf16) : FVec Ideal S512x3 .f32 :=
  lanesOf0 (addf (addf (tableRow0 (shrsi w (broadcast S512x1 7#32)) a) (tableRow0 (shrsi w (broadcast S512x1 7#32)) b))
    (tableRow0 (shrsi w (broadcast S512x1 7#32)) c)) (andi w (broadcast S512x1 127#32))

section
variable {i : Fin 512}
theorem tableRow0_at {hi : IVec S512x1 32} {j : Fin 64} (hj : hi (ix2 i 0) = BitVec.ofNat 32 j) (a : FVec Ideal S64x384 .bf16)
    (k : Fin 384) : tableRow0 hi a (ix2 i k) = a (ix2 j k) := by
  pointwise [tableRow0, rowHot0]
  exact onehot_sum (n := 64) (by norm_num) hj fun x => a (ix2 x k)
theorem laneOf0_at {lo : IVec S512x1 32} {l : Fin 128} (hl : lo (ix2 i 0) = BitVec.ofNat 32 l) (s : FVec Ideal S512x128 .f32) :
    laneOf0 s lo (ix2 i 0) = s (ix2 i l) := by
  pointwise [laneOf0]
  exact lane_max (n := 128) (by norm_num) hl (fun x => s (ix2 i x)) _ rfl
theorem block0_at (t : FVec Ideal S512x384 .f32) (l : Fin 128) (d : Fin 3) (o : ℕ) (ho : o = 128 * d)
    (hs : S512x384.Slices ![0, o] S512x128) :
    extractStridedSlice S512x128 ![0, o] t hs (ix2 i l) = t (ix2 i ⟨128 * d + l, by omega⟩) := by
  subst ho
  refine extractStridedSlice_apply ![0, 128 * d.val] t hs (ix2 i l) (ix2 i ⟨128 * d + l, by omega⟩) fun d => ?_
  match d with
  | 0 => exact (Nat.zero_add _).symm
  | 1 => rfl
theorem lanesOf0_at {lo : IVec S512x1 32} {l : Fin 128} (hl : lo (ix2 i 0) = BitVec.ofNat 32 l) (t : FVec Ideal S512x384 .f32)
    (d : Fin 3) : lanesOf0 t lo (ix2 i d) = t (ix2 i ⟨128 * d + l, by omega⟩) := by
  have e : ∀ d : Fin 3, d = 0 ∨ d = 1 ∨ d = 2 := by decide
  rcases e d with rfl | rfl | rfl
  · refine Eq.trans ?_ ((laneOf0_at hl _).trans (block0_at t l 0 0 rfl slices_S512x384_o0_0_S512x128))
    pointwise [lanesOf0]
  · refine Eq.trans ?_ ((laneOf0_at hl _).trans (block0_at t l 1 128 rfl slices_S512x384_o0_128_S512x128))
    pointwise [lanesOf0]
  · refine Eq.trans ?_ ((laneOf0_at hl _).trans (block0_at t l 2 256 rfl slices_S512x384_o0_256_S512x128))
    pointwise [lanesOf0]
/-- The point at place `j` is read where the tables hold it. -/
theorem taken0_at {w : IVec S512x1 32} {j : Fin 8192} (hj : w (ix2 i 0) = BitVec.ofNat 32 j) (a b c : FVec Ideal S64x384 .bf16)
    (d : Fin 3) : taken0 w a b c (ix2 i d)
      = a (ix2 ⟨j / 128, by omega⟩ ⟨128 * d + j % 128, by omega⟩) + b (ix2 ⟨j / 128, by omega⟩ ⟨128 * d + j % 128, by omega⟩)
        + c (ix2 ⟨j / 128, by omega⟩ ⟨128 * d + j % 128, by omega⟩) := by
  have h1 : shrsi w (broadcast S512x1 7#32) (ix2 i 0) = BitVec.ofNat 32 (⟨j / 128, by omega⟩ : Fin 64) :=
    (congrArg (fun x => IntOp.shrsi ArithUnit.vector x 7#32) hj).trans (shrsi_seven (by have := j.isLt; omega))
  have h2 : andi w (broadcast S512x1 127#32) (ix2 i 0) = BitVec.ofNat 32 (⟨j % 128, by omega⟩ : Fin 128) :=
    (congrArg (fun x => IntOp.andi x 127#32) hj).trans (andi_low (by have := j.isLt; omega))
  unfold taken0
  rw [lanesOf0_at h2]
  show tableRow0 _ a _ + tableRow0 _ b _ + tableRow0 _ c _ = _
  rw [tableRow0_at h1, tableRow0_at h1, tableRow0_at h1]
end

theorem pay18_eq (w : IVec S512x1 32) (a b c : Vec Ideal S1x64x384 .bf16) :
    k0_pay18 (F := Ideal) w (k0_pay17 a) b c
      = taken0 w (shapeCast S64x384 a shapeCasts_S1x64x384_S64x384) (shapeCast S64x384 b shapeCasts_S1x64x384_S64x384)
          (shapeCast S64x384 c shapeCasts_S1x64x384_S64x384) := rfl

/-- The first body's points: at the nearest place, the three tables' entries summed. -/
theorem matched0_at (p : Vec Ideal S1x512x3 .f32) (q0 q1 q2 q3 : Vec Ideal S1x3x2048 .f32) (ga gb gc : Vec Ideal S1x64x384 .bf16)
    (i : Fin 512) {j : Fin 8192} (hj : near p q0 q1 q2 q3 (ix2 i 0) = BitVec.ofNat 32 j) (d : Fin 3) :
    matched0 p q0 q1 q2 q3 ga gb gc (ix3 0 i d)
      = ga (ix3 0 ⟨j / 128, by omega⟩ ⟨128 * d + j % 128, by omega⟩) + gb (ix3 0 ⟨j / 128, by omega⟩ ⟨128 * d + j % 128, by omega⟩)
        + gc (ix3 0 ⟨j / 128, by omega⟩ ⟨128 * d + j % 128, by omega⟩) := by
  have e : matched0 p q0 q1 q2 q3 ga gb gc (ix3 0 i d)
      = k0_pay18 (near p q0 q1 q2 q3) (k0_pay17 ga) gb gc (ix2 i d) := by
    unfold matched0
    generalize k0_pay18 (near p q0 q1 q2 q3) (k0_pay17 ga) gb gc = v
    pointwise [k0_pay1]
  rw [e, pay18_eq, taken0_at hj]
  generalize (⟨128 * d + j % 128, _⟩ : Fin 384) = k
  generalize (⟨j / 128, _⟩ : Fin 64) = r
  pointwise []

/-! The second body reads 1024 points out of 16 rows. -/

/-- The one-hot rows of the table rows wanted, -/
def rowHot1 (hi : IVec S1024x1 32) : FVec Ideal S1024x16 .bf16 :=
  truncf .bf16 (sitofp .f32 (extui 32 (cmpi .eq (iota .tc S1024x16 32 [1] iota_S1024x16_d1_w32)
    (broadcastTo S1024x16 hi broadcasts_S1024x1_S1024x16)) natLt_1_32)) bitsLt_bf16_f32
/-- one table's rows, -/
def tableRow1 (hi : IVec S1024x1 32) (a : FVec Ideal S16x384 .bf16) : FVec Ideal S1024x384 .f32 :=
  matmul dot_S1024x16_S16x384_S1024x384_1_0_0_1_n_n none (rowHot1 hi) a (constant S1024x384 .f32 0x00000000#32)
/-- one lane of a block of 128, -/
def laneOf1 (s : FVec Ideal S1024x128 .f32) (lo : IVec S1024x1 32) : FVec Ideal S1024x1 .f32 :=
  shapeCast S1024x1 (multiReduction .maximumf [1] S1024
    (select (cmpi .eq (iota .tc S1024x128 32 [1] iota_S1024x128_d1_w32) (broadcastTo S1024x128 lo broadcasts_S1024x1_S1024x128)) s
      (broadcast S1024x128 (Named.named κ "neg_big" 0xFF61B1E6#32)))
    0xFF800000#32 reduces_S1024x128_S1024 (.inl rfl) rfl) shapeCasts_S1024_S1024x1
/-- the same lane of three blocks. -/
def lanesOf1 (t : FVec Ideal S1024x384 .f32) (lo : IVec S1024x1 32) : FVec Ideal S1024x3 .f32 :=
  concatenate S1024x3 1
    [⟨S1024x1, laneOf1 (extractStridedSlice S1024x128 ![0, 0] t slices_S1024x384_o0_0_S1024x128) lo⟩,
     ⟨S1024x1, laneOf1 (extractStridedSlice S1024x128 ![0, 128] t slices_S1024x384_o0_128_S1024x128) lo⟩,
     ⟨S1024x1, laneOf1 (extractStridedSlice S1024x128 ![0, 256] t slices_S1024x384_o0_256_S1024x128) lo⟩]
    concatenates_S1024x1_S1024x1_S1024x1_S1024x3_d1
/-- The points at the places `w`. -/
def taken1 (w : IVec S1024x1 32) (a b c : FVec Ideal S16x384 .bf16) : FVec Ideal S1024x3 .f32 :=
  lanesOf1 (addf (addf (tableRow1 (shrsi w (broadcast S1024x1 7#32)) a) (tableRow1 (shrsi w (broadcast S1024x1 7#32)) b))
    (tableRow1 (shrsi w (broadcast S1024x1 7#32)) c)) (andi w (broadcast S1024x1 127#32))

section
variable {i : Fin 1024}
theorem tableRow1_at {hi : IVec S1024x1 32} {j : Fin 16} (hj : hi (ix2 i 0) = BitVec.ofNat 32 j) (a : FVec Ideal S16x384 .bf16)
    (k : Fin 384) : tableRow1 hi a (ix2 i k) = a (ix2 j k) := by
  pointwise [tableRow1, rowHot1]
  exact onehot_sum (n := 16) (by norm_num) hj fun x => a (ix2 x k)
theorem laneOf1_at {lo : IVec S1024x1 32} {l : Fin 128} (hl : lo (ix2 i 0) = BitVec.ofNat 32 l) (s : FVec Ideal S1024x128 .f32) :
    laneOf1 s lo (ix2 i 0) = s (ix2 i l) := by
  pointwise [laneOf1]
  exact lane_max (n := 128) (by norm_num) hl (fun x => s (ix2 i x)) _ rfl
theorem block1_at (t : FVec Ideal S1024x384 .f32) (l : Fin 128) (d : Fin 3) (o : ℕ) (ho : o = 128 * d)
    (hs : S1024x384.Slices ![0, o] S1024x128) :
    extractStridedSlice S1024x128 ![0, o] t hs (ix2 i l) = t (ix2 i ⟨128 * d + l, by omega⟩) := by
  subst ho
  refine extractStridedSlice_apply ![0, 128 * d.val] t hs (ix2 i l) (ix2 i ⟨128 * d + l, by omega⟩) fun d => ?_
  match d with
  | 0 => exact (Nat.zero_add _).symm
  | 1 => rfl
theorem lanesOf1_at {lo : IVec S1024x1 32} {l : Fin 128} (hl : lo (ix2 i 0) = BitVec.ofNat 32 l) (t : FVec Ideal S1024x384 .f32)
    (d : Fin 3) : lanesOf1 t lo (ix2 i d) = t (ix2 i ⟨128 * d + l, by omega⟩) := by
  have e : ∀ d : Fin 3, d = 0 ∨ d = 1 ∨ d = 2 := by decide
  rcases e d with rfl | rfl | rfl
  · refine Eq.trans ?_ ((laneOf1_at hl _).trans (block1_at t l 0 0 rfl slices_S1024x384_o0_0_S1024x128))
    pointwise [lanesOf1]
  · refine Eq.trans ?_ ((laneOf1_at hl _).trans (block1_at t l 1 128 rfl slices_S1024x384_o0_128_S1024x128))
    pointwise [lanesOf1]
  · refine Eq.trans ?_ ((laneOf1_at hl _).trans (block1_at t l 2 256 rfl slices_S1024x384_o0_256_S1024x128))
    pointwise [lanesOf1]
/-- The point at place `j` is read where the tables hold it. -/
theorem taken1_at {w : IVec S1024x1 32} {j : Fin 2048} (hj : w (ix2 i 0) = BitVec.ofNat 32 j) (a b c : FVec Ideal S16x384 .bf16)
    (d : Fin 3) : taken1 w a b c (ix2 i d)
      = a (ix2 ⟨j / 128, by omega⟩ ⟨128 * d + j % 128, by omega⟩) + b (ix2 ⟨j / 128, by omega⟩ ⟨128 * d + j % 128, by omega⟩)
        + c (ix2 ⟨j / 128, by omega⟩ ⟨128 * d + j % 128, by omega⟩) := by
  have h1 : shrsi w (broadcast S1024x1 7#32) (ix2 i 0) = BitVec.ofNat 32 (⟨j / 128, by omega⟩ : Fin 16) :=
    (congrArg (fun x => IntOp.shrsi ArithUnit.vector x 7#32) hj).trans (shrsi_seven (by have := j.isLt; omega))
  have h2 : andi w (broadcast S1024x1 127#32) (ix2 i 0) = BitVec.ofNat 32 (⟨j % 128, by omega⟩ : Fin 128) :=
    (congrArg (fun x => IntOp.andi x 127#32) hj).trans (andi_low (by have := j.isLt; omega))
  unfold taken1
  rw [lanesOf1_at h2]
  show tableRow1 _ a _ + tableRow1 _ b _ + tableRow1 _ c _ = _
  rw [tableRow1_at h1, tableRow1_at h1, tableRow1_at h1]
end

/-- The first side's offsets, and -/
theorem rel0_eq (v5 : FVec Ideal S1024x3 .f32) (a b c : FVec Ideal S16x384 .bf16) (s : FVec Ideal S1024x2048 .f32) :
    rel0 v5 a b c lanes2 s = subf (taken1 (pick0 lanes2 s) a b c) v5 := rfl
/-- what one trip adds. -/
def added (o : FVec Ideal S1024x3 .f32) : FVec Ideal S1024x1 .f32 :=
  shapeCast S1024x1 (multiReduction .add [1] S1024 (mulf o o) 0x00000000#32 reduces_S1024x3_S1024 (.inl rfl) rfl) shapeCasts_S1024_S1024x1
theorem gain_eq (v5 : FVec Ideal S1024x3 .f32) (a b c : FVec Ideal S16x384 .bf16) (v39 : Vec Ideal S1x1024x3 .f32)
    (ha hb hc : Vec Ideal S1x16x384 .bf16) (s : FVec Ideal S1024x2048 .f32 × FVec Ideal S1024x2048 .f32 × FVec Ideal S1024x1 .f32) :
    gain v5 a b c v39 ha hb hc lanes2 s
      = addf s.2.2 (added (subf (subf (taken1 (pick1 lanes2 s.2.1) (k1_pay69 ha) (k1_pay70 hb) (k1_pay71 hc)) (k1_pay67 v39))
          (rel0 v5 a b c lanes2 s.1))) := rfl
theorem added_at (o : FVec Ideal S1024x3 .f32) (i : Fin 1024) : added o (ix2 i 0) = ∑ d : Fin 3, o (ix2 i d) * o (ix2 i d) := by
  pointwise [added]

end Cert.KernelIdeal.Knn

end
-- ==== Proof.Stage0.lean ====
/- The first call's result array: each point's nearest other point. -/
module

public import proofs.«01_k».proof.Proof.KernelIdealRun
public import proofs.«01_k».proof.Proof.Nearest
public import proofs.«01_k».proof.Proof.Taken
public import Idealize.ShloMosaic.Lib.Pipeline.Value

@[expose] public section

set_option maxRecDepth 16384

noncomputable section

namespace Cert.Knn

open Idealize.ShloMosaic

/-- The place of the first smallest entry. -/
def firstMin {n : ℕ} [NeZero n] (f : Fin n → EReal) : Fin n := (exists_firstMin f).choose
theorem firstMin_spec {n : ℕ} [NeZero n] (f : Fin n → EReal) : FirstMin f (firstMin f) := (exists_firstMin f).choose_spec

end Cert.Knn

namespace Cert.KernelIdeal.Knn

open Idealize.ShloMosaic Idealize.ShloMosaic.TcCoe
open Idealize.ShloMosaic.Pipeline (Dat)
open Cert.KernelIdeal.Gen Cert.Knn

theorem group64 (k : Fin 8192) : (k : ℕ) / 128 < 64 := by omega
theorem within64 (d : Fin 3) (k : Fin 8192) : 128 * (d : ℕ) + k % 128 < 384 := by omega

theorem hz3 : (![0, 0, 0] : Fin 3 → Nat) = fun _ => 0 := funext fun a => by fin_cases a <;> rfl

/-- The first body's block at an index. -/
theorem out0_at (x0 : Vec Ideal S1x512x3 .f32) (x1 : Vec Ideal S1x3x8192 .f32) (x2 x3 x4 : Vec Ideal S1x64x384 .bf16)
    (X : Fin 3 → EReal) (Y : Fin 8192 → Fin 3 → EReal) (i : Fin 512) (d : Fin 3)
    (h0 : ∀ d, x0 (ix3 0 i d) = X d) (h1 : ∀ k d, x1 (ix3 0 d k) = Y k d)
    (hg : ∀ (k : Fin 8192) (d : Fin 3), x2 (ix3 0 ⟨k / 128, by omega⟩ ⟨128 * d + k % 128, by omega⟩)
      + x3 (ix3 0 ⟨k / 128, by omega⟩ ⟨128 * d + k % 128, by omega⟩) + x4 (ix3 0 ⟨k / 128, by omega⟩ ⟨128 * d + k % 128, by omega⟩) = Y k d) :
    out0 x0 x1 x2 x3 x4 (ix3 0 i d) = Y (firstMin fun k => sqDist X (Y k)) d := by
  have e0 : View.ld x0 rp = x0 := View.ld_unit_zero (S := S1x512x3) hz3 _ x0
  have e2 : View.ld x2 rg = x2 := View.ld_unit_zero (S := S1x64x384) hz3 _ x2
  have e3 : View.ld x3 rg = x3 := View.ld_unit_zero (S := S1x64x384) hz3 _ x3
  have e4 : View.ld x4 rg = x4 := View.ld_unit_zero (S := S1x64x384) hz3 _ x4
  obtain ⟨j, hj, hw⟩ := near_at x0 (View.ld x1 rc0) (View.ld x1 rc1) (View.ld x1 rc2) (View.ld x1 rc3) i Y
    (fun k d => (congrArg x1 (funext fun a => by match a with
      | 0 => rfl
      | 1 => exact Fin.ext (by show 0 + 1 * d.val = d.val; omega)
      | 2 => exact Fin.ext (by show 0 + 1 * k.val = k.val; omega))).trans (h1 ⟨k, by omega⟩ d))
    (fun k d => (congrArg x1 (funext fun a => by match a with
      | 0 => rfl
      | 1 => exact Fin.ext (by show 0 + 1 * d.val = d.val; omega)
      | 2 => exact Fin.ext (by show 2048 + 1 * k.val = 2048 + k.val; omega))).trans (h1 ⟨2048 + k, by omega⟩ d))
    (fun k d => (congrArg x1 (funext fun a => by match a with
      | 0 => rfl
      | 1 => exact Fin.ext (by show 0 + 1 * d.val = d.val; omega)
      | 2 => exact Fin.ext (by show 4096 + 1 * k.val = 4096 + k.val; omega))).trans (h1 ⟨4096 + k, by omega⟩ d))
    (fun k d => (congrArg x1 (funext fun a => by match a with
      | 0 => rfl
      | 1 => exact Fin.ext (by show 0 + 1 * d.val = d.val; omega)
      | 2 => exact Fin.ext (by show 6144 + 1 * k.val = 6144 + k.val; omega))).trans (h1 ⟨6144 + k, by omega⟩ d))
  have ej : j = firstMin fun k => sqDist X (Y k) := by
    refine FirstMin.unique hj ?_
    rw [funext h0]
    exact firstMin_spec _
  subst ej
  unfold out0
  rw [e0, e2, e3, e4, matched0_at _ _ _ _ _ _ _ _ i hw d]
  exact hg _ d

section
variable (V : (c : Dev nD) → (b : Ref sig .tc) → Buf (Elt Ideal) ((c : Thread nD τ).loc b)) (c : Dev nD)
  (X : Fin 2 → Fin 2048 → Fin 3 → EReal) (Y : Fin 2 → Fin 8192 → Fin 3 → EReal)

theorem lt8 (t : Fin cfg0.N) : t.val < 8 := lt_of_lt_of_eq t.isLt N_0

/-- Where each window's block starts. -/
theorem at0_0 : ∀ t : Fin cfg0.N, win0_0.index t 0 * win0_0.size 0 = t.val / 4 ∧ win0_0.index t 1 * win0_0.size 1 = 512 * (t.val % 4)
    ∧ win0_0.index t 2 * win0_0.size 2 = 0 := by decide +kernel
theorem at0_1 : ∀ t : Fin cfg0.N, win0_1.index t 0 * win0_1.size 0 = t.val / 4 ∧ win0_1.index t 1 * win0_1.size 1 = 0
    ∧ win0_1.index t 2 * win0_1.size 2 = 0 := by decide +kernel
theorem at0_2 : ∀ t : Fin cfg0.N, win0_2.index t 0 * win0_2.size 0 = t.val / 4 ∧ win0_2.index t 1 * win0_2.size 1 = 0
    ∧ win0_2.index t 2 * win0_2.size 2 = 0 := by decide +kernel
theorem at0_3 : ∀ t : Fin cfg0.N, win0_3.index t 0 * win0_3.size 0 = t.val / 4 ∧ win0_3.index t 1 * win0_3.size 1 = 0
    ∧ win0_3.index t 2 * win0_3.size 2 = 0 := by decide +kernel
theorem at0_4 : ∀ t : Fin cfg0.N, win0_4.index t 0 * win0_4.size 0 = t.val / 4 ∧ win0_4.index t 1 * win0_4.size 1 = 0
    ∧ win0_4.index t 2 * win0_4.size 2 = 0 := by decide +kernel
theorem at0_5 : ∀ t : Fin cfg0.N, win0_5.index t 0 * win0_5.size 0 = t.val / 4 ∧ win0_5.index t 1 * win0_5.size 1 = 512 * (t.val % 4)
    ∧ win0_5.index t 2 * win0_5.size 2 = 0 := by decide +kernel
theorem ext0_5 : ∀ t : Fin cfg0.N, win0_5.xsize (grid0.coords t) 0 = 1 ∧ win0_5.xsize (grid0.coords t) 1 = 512
    ∧ win0_5.xsize (grid0.coords t) 2 = 3 := by decide +kernel

theorem blk0_0_at (t : Fin cfg0.N) (i : Fin 512) (d : Fin 3) :
    blk0 V c 0 t (ix3 0 i d) = V c main_arg1 (ix3 ⟨t.val / 4, by have := lt8 t; omega⟩ ⟨512 * (t.val % 4) + i, by omega⟩ d) := by
  obtain ⟨e0, e1, e2⟩ := at0_0 t
  refine congrArg (V c main_arg1) (funext fun a => Fin.ext ?_)
  match a with
  | 0 => show win0_0.index t 0 * win0_0.size 0 + 1 * 0 = t.val / 4; omega
  | 1 => show win0_0.index t 1 * win0_0.size 1 + 1 * i.val = 512 * (t.val % 4) + i.val; omega
  | 2 => show win0_0.index t 2 * win0_0.size 2 + 1 * d.val = d.val; omega
theorem blk0_1_at (t : Fin cfg0.N) (k : Fin 8192) (d : Fin 3) :
    blk0 V c 1 t (ix3 0 d k) = V c main_v0 (ix3 ⟨t.val / 4, by have := lt8 t; omega⟩ d k) := by
  obtain ⟨e0, e1, e2⟩ := at0_1 t
  refine congrArg (V c main_v0) (funext fun a => Fin.ext ?_)
  match a with
  | 0 => show win0_1.index t 0 * win0_1.size 0 + 1 * 0 = t.val / 4; omega
  | 1 => show win0_1.index t 1 * win0_1.size 1 + 1 * d.val = d.val; omega
  | 2 => show win0_1.index t 2 * win0_1.size 2 + 1 * k.val = k.val; omega
theorem blk0_2_at (t : Fin cfg0.N) (h : Fin 64) (l : Fin 384) :
    blk0 V c 2 t (ix3 0 h l) = V c main_v18 (ix3 ⟨t.val / 4, by have := lt8 t; omega⟩ h l) := by
  obtain ⟨e0, e1, e2⟩ := at0_2 t
  refine congrArg (V c main_v18) (funext fun a => Fin.ext ?_)
  match a with
  | 0 => show win0_2.index t 0 * win0_2.size 0 + 1 * 0 = t.val / 4; omega
  | 1 => show win0_2.index t 1 * win0_2.size 1 + 1 * h.val = h.val; omega
  | 2 => show win0_2.index t 2 * win0_2.size 2 + 1 * l.val = l.val; omega
theorem blk0_3_at (t : Fin cfg0.N) (h : Fin 64) (l : Fin 384) :
    blk0 V c 3 t (ix3 0 h l) = V c main_v34 (ix3 ⟨t.val / 4, by have := lt8 t; omega⟩ h l) := by
  obtain ⟨e0, e1, e2⟩ := at0_3 t
  refine congrArg (V c main_v34) (funext fun a => Fin.ext ?_)
  match a with
  | 0 => show win0_3.index t 0 * win0_3.size 0 + 1 * 0 = t.val / 4; omega
  | 1 => show win0_3.index t 1 * win0_3.size 1 + 1 * h.val = h.val; omega
  | 2 => show win0_3.index t 2 * win0_3.size 2 + 1 * l.val = l.val; omega
theorem blk0_4_at (t : Fin cfg0.N) (h : Fin 64) (l : Fin 384) :
    blk0 V c 4 t (ix3 0 h l) = V c main_v36 (ix3 ⟨t.val / 4, by have := lt8 t; omega⟩ h l) := by
  obtain ⟨e0, e1, e2⟩ := at0_4 t
  refine congrArg (V c main_v36) (funext fun a => Fin.ext ?_)
  match a with
  | 0 => show win0_4.index t 0 * win0_4.size 0 + 1 * 0 = t.val / 4; omega
  | 1 => show win0_4.index t 1 * win0_4.size 1 + 1 * h.val = h.val; omega
  | 2 => show win0_4.index t 2 * win0_4.size 2 + 1 * l.val = l.val; omega

/-- Each point's nearest other point. -/
def nearestPoint (b : Fin 2) (r : Fin 2048) (d : Fin 3) : EReal := Y b (firstMin fun k => sqDist (X b r) (Y b k)) d

def whole0 : Vec Ideal S2x2048x3 .f32 := fun i => nearestPoint X Y (i 0) (i 1) (i 2)

variable (hx : ∀ b r d, V c main_arg1 (ix3 b r d) = X b r d) (hy : ∀ b k d, V c main_v0 (ix3 b d k) = Y b k d)
  (hg : ∀ (b : Fin 2) (k : Fin 8192) (d : Fin 3), HAdd.hAdd (α := EReal) (β := EReal) (γ := EReal) (HAdd.hAdd (α := EReal) (β := EReal) (γ := EReal) (V c main_v18 (ix3 b ⟨k / 128, group64 k⟩ ⟨128 * d + k % 128, within64 d k⟩))
      (V c main_v34 (ix3 b ⟨k / 128, group64 k⟩ ⟨128 * d + k % 128, within64 d k⟩)))
      (V c main_v36 (ix3 b ⟨k / 128, group64 k⟩ ⟨128 * d + k % 128, within64 d k⟩)) = Y b k d)
include hx hy hg

theorem flushed0 (t : Fin cfg0.N) :
    (data0 V c).flushed 5 t = ((cfg0.win 5).blk t).view.read (Elt Ideal) (whole0 X Y) := by
  show (cfg0.win 5).cut (grid0.coords t) ((data0 V c).after 5 t) = _
  rw [left0_5]
  funext j
  show out0 (blk0 V c 0 t) (blk0 V c 1 t) (blk0 V c 2 t) (blk0 V c 3 t) (blk0 V c 4 t) j = whole0 X Y ((win0_5.rect t).emb j)
  obtain ⟨e0, e1, e2⟩ := at0_5 t
  have hN := lt8 t
  obtain ⟨i, d, rfl⟩ : ∃ (i : Fin 512) (d : Fin 3), j = ix3 0 i d :=
    ⟨j 1, j 2, (eq_ix3 (n0 := 1) (n1 := 512) (n2 := 3) j).trans (congrArg (fun z => ix3 z (j 1) (j 2)) (Subsingleton.elim (α := Fin 1) _ _))⟩
  have em : (win0_5.rect t).emb (ix3 0 i d) = ix3 ⟨t.val / 4, by omega⟩ ⟨512 * (t.val % 4) + i, by omega⟩ d := by
    refine funext fun a => Fin.ext ?_
    match a with
    | 0 => show win0_5.index t 0 * win0_5.size 0 + 1 * 0 = t.val / 4; omega
    | 1 => show win0_5.index t 1 * win0_5.size 1 + 1 * i.val = 512 * (t.val % 4) + i.val; omega
    | 2 => show win0_5.index t 2 * win0_5.size 2 + 1 * d.val = d.val; omega
  rw [em]
  exact out0_at _ _ _ _ _ (X ⟨t.val / 4, by omega⟩ ⟨512 * (t.val % 4) + i, by omega⟩) (Y ⟨t.val / 4, by omega⟩) i d
    (fun d => (blk0_0_at V c t i d).trans (hx _ _ _)) (fun k d => (blk0_1_at V c t k d).trans (hy _ _ _))
    (fun k d => by rw [blk0_2_at, blk0_3_at, blk0_4_at]; exact hg _ k d)

omit hx hy hg in
theorem mem0 (t : Fin cfg0.N) (i : S2x2048x3.Idx) :
    i ∈ ((cfg0.win 5).blk t).view.set ↔ t.val / 4 = (i 0 : Nat) ∧ 512 * (t.val % 4) ≤ (i 1 : Nat) ∧ (i 1 : Nat) < 512 * (t.val % 4) + 512 := by
  show i ∈ ((View.whole main_v37).slice (win0_5.rect t)).set ↔ _
  rw [View.set_slice_whole, Rect.mem_set_unit]
  obtain ⟨e0, e1, e2⟩ := at0_5 t
  obtain ⟨x0, x1, x2⟩ := ext0_5 t
  have h2 : (i 2 : Nat) < 3 := (i 2).isLt
  refine ⟨fun h => ?_, fun h a => ?_⟩
  · have h0 : win0_5.index t 0 * win0_5.size 0 ≤ (i 0 : Nat) ∧ (i 0 : Nat) < win0_5.index t 0 * win0_5.size 0 + win0_5.xsize (grid0.coords t) 0 := h 0
    have h1 : win0_5.index t 1 * win0_5.size 1 ≤ (i 1 : Nat) ∧ (i 1 : Nat) < win0_5.index t 1 * win0_5.size 1 + win0_5.xsize (grid0.coords t) 1 := h 1
    omega
  · match a with
    | 0 => show win0_5.index t 0 * win0_5.size 0 ≤ (i 0 : Nat) ∧ (i 0 : Nat) < win0_5.index t 0 * win0_5.size 0 + win0_5.xsize (grid0.coords t) 0; omega
    | 1 => show win0_5.index t 1 * win0_5.size 1 ≤ (i 1 : Nat) ∧ (i 1 : Nat) < win0_5.index t 1 * win0_5.size 1 + win0_5.xsize (grid0.coords t) 1; omega
    | 2 => show win0_5.index t 2 * win0_5.size 2 ≤ (i 2 : Nat) ∧ (i 2 : Nat) < win0_5.index t 2 * win0_5.size 2 + win0_5.xsize (grid0.coords t) 2; omega

omit hx hy hg in
theorem cover0 (i : S2x2048x3.Idx) : ∃ t : Fin cfg0.N, (cfg0.win 5).flush t = true ∧ i ∈ ((cfg0.win 5).blk t).view.set := by
  have h0 : (i 0 : Nat) < 2 := (i 0).isLt
  have h1 : (i 1 : Nat) < 2048 := (i 1).isLt
  have hN : cfg0.N = 8 := N_0
  refine ⟨⟨4 * (i 0 : Nat) + (i 1 : Nat) / 512, by omega⟩, flush0_5 _, ?_⟩
  rw [mem0]
  dsimp only
  omega

theorem array0 : (data0 V c).arrAt 5 cfg0.N = whole0 X Y :=
  (data0 V c).arrAt_eq_of_cover 5 (whole0 X Y) (fun t _ => flushed0 V c X Y hx hy hg t) cover0
end

end Cert.KernelIdeal.Knn

end
-- ==== Proof.Lanes.lean ====
/- A first maximum found lane by lane: a running maximum over sixteen groups of 128 in each lane, then the least place
   among the lanes whose maximum is the row's. -/
module

public import proofs.«01_k».proof.Proof.Rows

@[expose] public section

noncomputable section

namespace Cert.Knn

open Idealize.ShloMosaic

/-- After the first `G` groups: the largest entry, and the word of its first group. -/
def UptoMax (h : ℕ → EReal) (G : ℕ) (m : EReal) (w : BitVec 32) : Prop :=
  ∃ j, j < G ∧ w = BitVec.ofNat 32 j ∧ m = h j ∧ (∀ k, k < G → h k ≤ m) ∧ ∀ k, k < j → h k < m

theorem UptoMax.first (h : ℕ → EReal) {b : EReal} (hb : b = ⊥) :
    UptoMax h 1 (max (h 0) b) (if b < h 0 then 0#32 else 0#32) := by
  subst hb
  refine ⟨0, Nat.one_pos, by simp, max_eq_left bot_le, fun k hk => ?_, fun k hk => absurd hk (Nat.not_lt_zero k)⟩
  obtain rfl : k = 0 := by omega
  exact le_max_left _ _

theorem UptoMax.step {h : ℕ → EReal} {G : ℕ} {m : EReal} {w : BitVec 32} (hu : UptoMax h G m w) :
    UptoMax h (G + 1) (max (h G) m) (if m < h G then BitVec.ofNat 32 G else w) := by
  obtain ⟨j, hj, hw, hm, h1, h2⟩ := hu
  by_cases c : m < h G
  · rw [if_pos c, max_eq_left c.le]
    refine ⟨G, Nat.lt_succ_self G, rfl, rfl, fun k hk => ?_, fun k hk => (h1 k hk).trans_lt c⟩
    rcases Nat.lt_succ_iff_lt_or_eq.1 hk with hk | rfl
    · exact ((h1 k hk).trans_lt c).le
    · exact le_rfl
  · rw [if_neg c, max_eq_right (not_lt.1 c)]
    refine ⟨j, Nat.lt_succ_of_lt hj, hw, hm, fun k hk => ?_, h2⟩
    rcases Nat.lt_succ_iff_lt_or_eq.1 hk with hk | rfl
    · exact h1 k hk
    · exact not_lt.1 c

/-- The entries of one lane, group by group. -/
def lane (f : Fin 2048 → EReal) (l : Fin 128) (g : ℕ) : EReal := if h : g < 16 then f ⟨128 * g + l, by omega⟩ else ⊥

theorem lane_eq (f : Fin 2048 → EReal) (l : Fin 128) {g : ℕ} (h : g < 16) : lane f l g = f ⟨128 * g + l, by omega⟩ := dif_pos h

variable {f : Fin 2048 → EReal} {j : Fin 2048} {m : Fin 128 → EReal} {w : Fin 128 → BitVec 32}

/-- The lane of the first maximum holds the row's largest entry, -/
theorem lanes_max (hj : FirstMax f j) (hu : ∀ l, UptoMax (lane f l) 16 (m l) (w l)) :
    Finset.univ.fold max (Ideal.ofBits .f32 0xFF800000#32) m = f j := by
  have hjl := j.isLt
  have all : ∀ l, m l ≤ f j := fun l => by
    obtain ⟨g, hg, _, hm, _⟩ := hu l
    rw [hm, lane_eq f l hg]; exact hj.1 _
  have e : m ⟨j % 128, by omega⟩ = f j := by
    refine le_antisymm (all _) ?_
    obtain ⟨g, hg, _, hm, h1, _⟩ := hu ⟨j % 128, by omega⟩
    have := h1 (j / 128) (by omega)
    rw [lane_eq f _ (by omega)] at this
    refine le_of_eq_of_le (congrArg f (Fin.ext ?_)) this
    simp only []; omega
  rw [← e]
  exact fold_max_eq fun k => by rw [e]; exact all k

/-- and the least of the places the lanes report is that of the first maximum. -/
theorem lanes_first (hj : FirstMax f j) (hu : ∀ l, UptoMax (lane f l) 16 (m l) (w l)) :
    Finset.univ.fold IntOp.minsi (2147483647#32)
      (fun l : Fin 128 => if m l = f j then IntOp.addi (IntOp.muli (w l) 128#32) (BitVec.ofNat 32 l) else 2048#32)
      = BitVec.ofNat 32 j := by
  have hjl := j.isLt
  choose g hg hw hm h1 h2 using hu
  have ew : ∀ l : Fin 128, IntOp.addi (IntOp.muli (w l) 128#32) (BitVec.ofNat 32 l) = BitVec.ofNat 32 (128 * g l + l) := fun l => by
    rw [hw]
    show BitVec.ofNat 32 (g l) * 128#32 + BitVec.ofNat 32 l = _
    rw [BitVec.ofNat_add, Nat.mul_comm, BitVec.ofNat_mul]
  simp only [ew]
  have eg : g ⟨j % 128, by omega⟩ = j / 128 := by
    have e : m ⟨j % 128, by omega⟩ = f j := by
      refine le_antisymm ?_ ?_
      · rw [hm, lane_eq f _ (hg _)]; exact hj.1 _
      · have := h1 ⟨j % 128, by omega⟩ (j / 128) (by omega)
        rw [lane_eq f _ (by omega)] at this
        refine le_of_eq_of_le (congrArg f (Fin.ext ?_)) this
        simp only []; omega
    rcases lt_trichotomy (g ⟨j % 128, by omega⟩) (j / 128) with h | h | h
    · exfalso
      have hg' := hg ⟨j % 128, by omega⟩
      have := hj.2 ⟨128 * g ⟨j % 128, by omega⟩ + j % 128, by omega⟩ (by rw [Fin.lt_def]; simp only []; omega)
      rw [← e, hm, lane_eq f _ hg'] at this
      exact lt_irrefl _ this
    · exact h
    · exfalso
      have := h2 ⟨j % 128, by omega⟩ (j / 128) h
      rw [e, lane_eq f _ (by omega)] at this
      refine absurd this (not_lt.2 (le_of_eq (congrArg f (Fin.ext ?_))))
      simp only []; omega
  have ej : 128 * g ⟨j % 128, by omega⟩ + j % 128 = j := by rw [eg]; omega
  have := fold_first (c := fun l => m l = f j) (g := fun l : Fin 128 => 128 * g l + l) (j := ⟨j % 128, by omega⟩)
    (fun l => by have := hg l; have := l.isLt; omega)
    (by
      rw [hm, lane_eq f _ (hg _)]
      exact congrArg f (Fin.ext ej))
    (fun l hl => by
      have hgl := hg l
      by_contra hlt
      have h3 := hj.2 ⟨128 * g l + l, by omega⟩ (by rw [Fin.lt_def]; simp only [] at hlt ⊢; omega)
      rw [← hl, hm, lane_eq f _ hgl] at h3
      exact lt_irrefl _ h3)
  rw [this]
  exact congrArg _ ej

end Cert.Knn

end
-- ==== Proof.Picks.lean ====
/- The second body's picks: the first of each row's largest negated distances, and the point of that place out of the
   grouped tables. -/
module

public import proofs.«01_k».proof.Proof.KernelIdealBody
public import proofs.«01_k».proof.Proof.Lanes
public import Idealize.ShloMosaic.Lib.Pointwise
public import Idealize.ShloMosaic.Lib.ValueLayout

@[expose] public section

set_option maxRecDepth 16384

noncomputable section

namespace Cert.KernelIdeal.Knn

open Idealize.ShloMosaic Idealize.ShloMosaic.TcCoe
open Cert.KernelIdeal.Gen Cert.Knn

/-- Each lane's largest entry so far, and the group it came from. -/
abbrev Running : Type := FVec Ideal S1024x128 .f32 × IVec S1024x128 32
/-- One group more. -/
def next (x : FVec Ideal S1024x128 .f32) (w : BitVec 32) (s : Running) : Running :=
  (maximumf x s.1, select (cmpf .ogt x s.1) (broadcast S1024x128 w) s.2)
def start : Running := (k1_pay2 (F := Ideal), broadcast S1024x128 0#32)
/-- All sixteen. -/
def running (a : FVec Ideal S1024x2048 .f32) : Running :=
  next (extractStridedSlice S1024x128 ![0, 1920] a slices_S1024x2048_o0_1920_S1024x128) 15#32
  (next (extractStridedSlice S1024x128 ![0, 1792] a slices_S1024x2048_o0_1792_S1024x128) 14#32
  (next (extractStridedSlice S1024x128 ![0, 1664] a slices_S1024x2048_o0_1664_S1024x128) 13#32
  (next (extractStridedSlice S1024x128 ![0, 1536] a slices_S1024x2048_o0_1536_S1024x128) 12#32
  (next (extractStridedSlice S1024x128 ![0, 1408] a slices_S1024x2048_o0_1408_S1024x128) 11#32
  (next (extractStridedSlice S1024x128 ![0, 1280] a slices_S1024x2048_o0_1280_S1024x128) 10#32
  (next (extractStridedSlice S1024x128 ![0, 1152] a slices_S1024x2048_o0_1152_S1024x128) 9#32
  (next (extractStridedSlice S1024x128 ![0, 1024] a slices_S1024x2048_o0_1024_S1024x128) 8#32
  (next (extractStridedSlice S1024x128 ![0, 896] a slices_S1024x2048_o0_896_S1024x128) 7#32
  (next (extractStridedSlice S1024x128 ![0, 768] a slices_S1024x2048_o0_768_S1024x128) 6#32
  (next (extractStridedSlice S1024x128 ![0, 640] a slices_S1024x2048_o0_640_S1024x128) 5#32
  (next (extractStridedSlice S1024x128 ![0, 512] a slices_S1024x2048_o0_512_S1024x128) 4#32
  (next (extractStridedSlice S1024x128 ![0, 384] a slices_S1024x2048_o0_384_S1024x128) 3#32
  (next (extractStridedSlice S1024x128 ![0, 256] a slices_S1024x2048_o0_256_S1024x128) 2#32
  (next (extractStridedSlice S1024x128 ![0, 128] a slices_S1024x2048_o0_128_S1024x128) 1#32
  (next (extractStridedSlice S1024x128 ![0, 0] a slices_S1024x2048_o0_0_S1024x128) 0#32 start)))))))))))))))

/-- The row's largest, -/
def largest (s : Running) : FVec Ideal S1024x1 .f32 :=
  shapeCast S1024x1 (multiReduction .maximumf [1] S1024 s.1 0xFF800000#32 reduces_S1024x128_S1024 (.inl rfl) rfl) shapeCasts_S1024_S1024x1
/-- and the least place that holds it. -/
def leastPlace (s : Running) : IVec S1024x1 32 :=
  shapeCast S1024x1 (multiReductionI .minsi [1] S1024
    (select (cmpf .oeq s.1 (broadcastTo S1024x128 (largest s) broadcasts_S1024x1_S1024x128))
      (addi (muli s.2 (broadcast S1024x128 128#32)) lanes2) (broadcast S1024x128 2048#32))
    2147483647#32 reduces_S1024x128_S1024 rfl) shapeCasts_S1024_S1024x1

theorem pick0_eq (a : FVec Ideal S1024x2048 .f32) : pick0 lanes2 a = leastPlace (running a) := rfl
theorem pick1_eq (a : FVec Ideal S1024x2048 .f32) : pick1 lanes2 a = leastPlace (running a) := rfl

theorem next_at {h : ℕ → EReal} {G : ℕ} {s : Running} {i : Fin 1024} {l : Fin 128} (x : FVec Ideal S1024x128 .f32)
    (w : BitVec 32) (hu : UptoMax h G (s.1 (ix2 i l)) (s.2 (ix2 i l))) (hx : x (ix2 i l) = h G) (hw : w = BitVec.ofNat 32 G) :
    UptoMax h (G + 1) ((next x w s).1 (ix2 i l)) ((next x w s).2 (ix2 i l)) := by
  have e1 : (next x w s).1 (ix2 i l) = max (h G) (s.1 (ix2 i l)) := by rw [← hx]; rfl
  have e2 : (next x w s).2 (ix2 i l) = if s.1 (ix2 i l) < h G then BitVec.ofNat 32 G else s.2 (ix2 i l) := by
    rw [← hx, ← hw]
    pointwise [next]
  rw [e1, e2]
  exact hu.step

theorem start_at {h : ℕ → EReal} {i : Fin 1024} {l : Fin 128} (x : FVec Ideal S1024x128 .f32) (hx : x (ix2 i l) = h 0) :
    UptoMax h 1 ((next x 0#32 start).1 (ix2 i l)) ((next x 0#32 start).2 (ix2 i l)) := by
  have e1 : (next x 0#32 start).1 (ix2 i l) = max (h 0) ⊥ := by rw [← hx]; rfl
  have e2 : (next x 0#32 start).2 (ix2 i l) = if (⊥ : EReal) < h 0 then 0#32 else 0#32 := by
    rw [← hx]
    pointwise [next, start]
    simp
  rw [e1, e2]
  exact UptoMax.first h rfl

theorem slab_at (a : FVec Ideal S1024x2048 .f32) (i : Fin 1024) (l : Fin 128) (o g : ℕ) (ho : o = 128 * g) (hg : g < 16)
    (hs : S1024x2048.Slices ![0, o] S1024x128) :
    extractStridedSlice S1024x128 ![0, o] a hs (ix2 i l) = lane (fun k => a (ix2 i k)) l g := by
  rw [lane_eq _ _ hg]
  subst ho
  refine extractStridedSlice_apply ![0, 128 * g] a hs (ix2 i l) (ix2 i ⟨128 * g + l, by omega⟩) fun d => ?_
  match d with
  | 0 => exact (Nat.zero_add _).symm
  | 1 => rfl

theorem running_at (a : FVec Ideal S1024x2048 .f32) (i : Fin 1024) (l : Fin 128) :
    UptoMax (lane (fun k => a (ix2 i k)) l) 16 ((running a).1 (ix2 i l)) ((running a).2 (ix2 i l)) := by
  unfold running
  refine next_at (G := 15) _ _ ?_ (slab_at a i l 1920 15 rfl (by omega) _) rfl
  refine next_at (G := 14) _ _ ?_ (slab_at a i l 1792 14 rfl (by omega) _) rfl
  refine next_at (G := 13) _ _ ?_ (slab_at a i l 1664 13 rfl (by omega) _) rfl
  refine next_at (G := 12) _ _ ?_ (slab_at a i l 1536 12 rfl (by omega) _) rfl
  refine next_at (G := 11) _ _ ?_ (slab_at a i l 1408 11 rfl (by omega) _) rfl
  refine next_at (G := 10) _ _ ?_ (slab_at a i l 1280 10 rfl (by omega) _) rfl
  refine next_at (G := 9) _ _ ?_ (slab_at a i l 1152 9 rfl (by omega) _) rfl
  refine next_at (G := 8) _ _ ?_ (slab_at a i l 1024 8 rfl (by omega) _) rfl
  refine next_at (G := 7) _ _ ?_ (slab_at a i l 896 7 rfl (by omega) _) rfl
  refine next_at (G := 6) _ _ ?_ (slab_at a i l 768 6 rfl (by omega) _) rfl
  refine next_at (G := 5) _ _ ?_ (slab_at a i l 640 5 rfl (by omega) _) rfl
  refine next_at (G := 4) _ _ ?_ (slab_at a i l 512 4 rfl (by omega) _) rfl
  refine next_at (G := 3) _ _ ?_ (slab_at a i l 384 3 rfl (by omega) _) rfl
  refine next_at (G := 2) _ _ ?_ (slab_at a i l 256 2 rfl (by omega) _) rfl
  refine next_at (G := 1) _ _ ?_ (slab_at a i l 128 1 rfl (by omega) _) rfl
  exact start_at _ (slab_at a i l 0 0 rfl (by omega) _)

section
variable {a : FVec Ideal S1024x2048 .f32} {i : Fin 1024} {j : Fin 2048} (hj : FirstMax (fun k => a (ix2 i k)) j)
include hj

theorem largest_at : largest (running a) (ix2 i 0) = a (ix2 i j) := by
  pointwise [largest]
  exact lanes_max hj (running_at a i)
theorem leastPlace_at : leastPlace (running a) (ix2 i 0) = BitVec.ofNat 32 j := by
  pointwise [leastPlace, lanes2, largest_at hj]
  have := lanes_first hj (running_at a i)
  exact this
theorem pick0_at : pick0 lanes2 a (ix2 i 0) = BitVec.ofNat 32 j := by rw [pick0_eq, leastPlace_at hj]
theorem pick1_at : pick1 lanes2 a (ix2 i 0) = BitVec.ofNat 32 j := by rw [pick1_eq, leastPlace_at hj]
end

end Cert.KernelIdeal.Knn

end
-- ==== Proof.Gains.lean ====
/- The second body's trips: sixteen picks on each side, and the sum of the squared differences of the offsets. -/
module

public import proofs.«01_k».proof.Proof.Picks
public import proofs.«01_k».proof.Proof.Taken
public import proofs.«01_k».proof.Proof.Ranks

@[expose] public section

set_option maxRecDepth 16384

noncomputable section

namespace Cert.Knn

open Idealize.ShloMosaic

def sq3 (a : Fin 3 → EReal) : EReal := a 0 * a 0 + a 1 * a 1 + a 2 * a 2
/-- The negated squared distance, as both programs write it. -/
def nearness (a b : Fin 3 → EReal) : EReal :=
  Ideal.ofBits .f32 1073741824#32 * (∑ x : Fin 3, a x * b x) - sq3 a - sq3 b
/-- What the pick `r` adds for row `i`. -/
def part (P Q : Fin 2048 → Fin 3 → EReal) (i : Fin 2048) (r : ℕ) : EReal :=
  ∑ d : Fin 3, ((Q (picked (fun k => nearness (Q i) (Q k)) r) d - Q i d) - (P (picked (fun k => nearness (P i) (P k)) r) d - P i d))
    * ((Q (picked (fun k => nearness (Q i) (Q k)) r) d - Q i d) - (P (picked (fun k => nearness (P i) (P k)) r) d - P i d))

end Cert.Knn

namespace Cert.KernelIdeal.Knn

open Idealize.ShloMosaic Idealize.ShloMosaic.TcCoe
open Cert.KernelIdeal.Gen Cert.Knn

theorem pay62_at (pt : Vec Ideal S1x3x2048 .f32) (p : Vec Ideal S1x1024x3 .f32) (i : Fin 1024) (k : Fin 2048) :
    k1_pay62 (F := Ideal) pt p (ix2 i k) = nearness (fun d => p (ix3 0 i d)) fun d => pt (ix3 0 d k) := by
  pointwise [k1_pay62, k1_pay61, nearness, sq3]
theorem pay68_at (qt : Vec Ideal S1x3x2048 .f32) (q : Vec Ideal S1x1024x3 .f32) (i : Fin 1024) (k : Fin 2048) :
    k1_pay68 (F := Ideal) (k1_pay66 qt) q (ix2 i k) = nearness (fun d => q (ix3 0 i d)) fun d => qt (ix3 0 d k) := by
  pointwise [k1_pay68, k1_pay66, k1_pay67, nearness, sq3]

theorem pay61_at (p : Vec Ideal S1x1024x3 .f32) (i : Fin 1024) (d : Fin 3) : k1_pay61 (F := Ideal) p (ix2 i d) = p (ix3 0 i d) := by
  pointwise [k1_pay61]
theorem pay67_at (p : Vec Ideal S1x1024x3 .f32) (i : Fin 1024) (d : Fin 3) : k1_pay67 (F := Ideal) p (ix2 i d) = p (ix3 0 i d) := by
  pointwise [k1_pay67]
theorem pay63_at (a : Vec Ideal S1x16x384 .bf16) (h : Fin 16) (k : Fin 384) : k1_pay63 (F := Ideal) a (ix2 h k) = a (ix3 0 h k) := by
  pointwise [k1_pay63]
theorem pay64_at (a : Vec Ideal S1x16x384 .bf16) (h : Fin 16) (k : Fin 384) : k1_pay64 (F := Ideal) a (ix2 h k) = a (ix3 0 h k) := by
  pointwise [k1_pay64]
theorem pay65_at (a : Vec Ideal S1x16x384 .bf16) (h : Fin 16) (k : Fin 384) : k1_pay65 (F := Ideal) a (ix2 h k) = a (ix3 0 h k) := by
  pointwise [k1_pay65]
theorem pay69_at (a : Vec Ideal S1x16x384 .bf16) (h : Fin 16) (k : Fin 384) : k1_pay69 (F := Ideal) a (ix2 h k) = a (ix3 0 h k) := by
  pointwise [k1_pay69]
theorem pay70_at (a : Vec Ideal S1x16x384 .bf16) (h : Fin 16) (k : Fin 384) : k1_pay70 (F := Ideal) a (ix2 h k) = a (ix3 0 h k) := by
  pointwise [k1_pay70]
theorem pay71_at (a : Vec Ideal S1x16x384 .bf16) (h : Fin 16) (k : Fin 384) : k1_pay71 (F := Ideal) a (ix2 h k) = a (ix3 0 h k) := by
  pointwise [k1_pay71]

theorem hit {k j : Fin 2048} : (IntOp.cmpi .eq (BitVec.ofNat 32 k) (BitVec.ofNat 32 j) = 1#1) ↔ k = j := by
  have hk := k.isLt
  have hj := j.isLt
  rw [IntOp.cmpi_eq]
  constructor
  · intro h
    have := congrArg BitVec.toNat h
    rw [BitVec.toNat_ofNat, BitVec.toNat_ofNat] at this
    exact Fin.ext (by omega)
  · rintro rfl; rfl

theorem select_hit (k j : Fin 2048) (b x : EReal) (hb : b = ⊥) :
    Scalar.select (IntOp.cmpi .eq (BitVec.ofNat 32 k) (BitVec.ofNat 32 j)) b x = if k = j then ⊥ else x := by
  subst hb
  by_cases h : k = j
  · rw [if_pos h]; exact if_pos (hit.2 h)
  · rw [if_neg h]; exact if_neg (mt hit.1 h)
theorem pay26_at (s : FVec Ideal S1024x2048 .f32) (w : IVec S1024x1 32) (i : Fin 1024) (k j : Fin 2048)
    (hj : w (ix2 i 0) = BitVec.ofNat 32 j) :
    k1_pay26 (F := Ideal) lanes1 s w (ix2 i k) = if k = j then ⊥ else s (ix2 i k) := by
  pointwise [k1_pay26, lanes1, hj]
  exact select_hit k j _ (s (ix2 i k)) rfl
theorem pay73_at (s : FVec Ideal S1024x2048 .f32) (w : IVec S1024x1 32) (i : Fin 1024) (k j : Fin 2048)
    (hj : w (ix2 i 0) = BitVec.ofNat 32 j) :
    k1_pay73 (F := Ideal) s w (ix2 i k) = if k = j then ⊥ else s (ix2 i k) := by
  pointwise [k1_pay73, hj]
  exact select_hit k j _ (s (ix2 i k)) rfl

section
variable (p q : Vec Ideal S1x1024x3 .f32) (pt qt : Vec Ideal S1x3x2048 .f32) (ga gb gc ha hb hc : Vec Ideal S1x16x384 .bf16)
  (P Q : Fin 2048 → Fin 3 → EReal) (i : Fin 1024) (r0 : Fin 2048)

section
variable (v5 : FVec Ideal S1024x3 .f32) (a b c : FVec Ideal S16x384 .bf16)
  (s : FVec Ideal S1024x2048 .f32 × FVec Ideal S1024x2048 .f32 × FVec Ideal S1024x1 .f32)
theorem trip_fst : (trip v5 a b c q ha hb hc lanes1 lanes2 s).1 = k1_pay26 lanes1 s.1 (pick0 lanes2 s.1) := by
  dsimp only [trip]
theorem trip_snd : (trip v5 a b c q ha hb hc lanes1 lanes2 s).2.1 = k1_pay73 s.2.1 (pick1 lanes2 s.2.1) := by
  dsimp only [trip]
theorem trip_trd : (trip v5 a b c q ha hb hc lanes1 lanes2 s).2.2
    = addf s.2.2 (added (subf (subf (taken1 (pick1 lanes2 s.2.1) (k1_pay69 ha) (k1_pay70 hb) (k1_pay71 hc)) (k1_pay67 q))
        (rel0 v5 a b c lanes2 s.1))) := by
  unfold trip; exact gain_eq v5 a b c q ha hb hc s
end

/-- The state after `r` trips. -/
def trips (r : ℕ) : FVec Ideal S1024x2048 .f32 × FVec Ideal S1024x2048 .f32 × FVec Ideal S1024x1 .f32 :=
  (trip (k1_pay61 p) (k1_pay63 ga) (k1_pay64 gb) (k1_pay65 gc) q ha hb hc lanes1 lanes2)^[r]
    (k1_pay62 pt p, k1_pay68 (k1_pay66 qt) q, k1_pay72)

theorem trips_at (hp : ∀ d, p (ix3 0 i d) = P r0 d) (hq : ∀ d, q (ix3 0 i d) = Q r0 d)
    (hpt : ∀ k d, pt (ix3 0 d k) = P k d) (hqt : ∀ k d, qt (ix3 0 d k) = Q k d)
    (hg : ∀ (k : Fin 2048) (d : Fin 3), ga (ix3 0 ⟨k / 128, by omega⟩ ⟨128 * d + k % 128, by omega⟩)
      + gb (ix3 0 ⟨k / 128, by omega⟩ ⟨128 * d + k % 128, by omega⟩) + gc (ix3 0 ⟨k / 128, by omega⟩ ⟨128 * d + k % 128, by omega⟩) = P k d)
    (hh : ∀ (k : Fin 2048) (d : Fin 3), ha (ix3 0 ⟨k / 128, by omega⟩ ⟨128 * d + k % 128, by omega⟩)
      + hb (ix3 0 ⟨k / 128, by omega⟩ ⟨128 * d + k % 128, by omega⟩) + hc (ix3 0 ⟨k / 128, by omega⟩ ⟨128 * d + k % 128, by omega⟩) = Q k d)
    (r : ℕ) :
    (∀ k, (trips p q pt qt ga gb gc ha hb hc r).1 (ix2 i k) = struck (fun k => nearness (P r0) (P k)) r k)
    ∧ (∀ k, (trips p q pt qt ga gb gc ha hb hc r).2.1 (ix2 i k) = struck (fun k => nearness (Q r0) (Q k)) r k)
    ∧ (trips p q pt qt ga gb gc ha hb hc r).2.2 (ix2 i 0) = ∑ r' ∈ Finset.range r, part P Q r0 r' := by
  induction r with
  | zero =>
    refine ⟨fun k => ?_, fun k => ?_, ?_⟩
    · refine (pay62_at pt p i k).trans ?_
      rw [funext hp, funext (hpt k)]; rfl
    · refine (pay68_at qt q i k).trans ?_
      rw [funext hq, funext (hqt k)]; rfl
    · rw [Finset.range_zero, Finset.sum_empty]
      show k1_pay72 (F := Ideal) (ix2 i 0) = 0
      pointwise [k1_pay72]
  | succ r ih =>
    obtain ⟨ih1, ih2, ih3⟩ := ih
    have es : trips p q pt qt ga gb gc ha hb hc (r + 1)
        = trip (k1_pay61 p) (k1_pay63 ga) (k1_pay64 gb) (k1_pay65 gc) q ha hb hc lanes1 lanes2 (trips p q pt qt ga gb gc ha hb hc r) :=
      Function.iterate_succ_apply' _ _ _
    rw [es, trip_fst, trip_snd, trip_trd]
    generalize trips p q pt qt ga gb gc ha hb hc r = s at ih1 ih2 ih3
    obtain ⟨s1, s2, s3⟩ := s
    replace ih1 : ∀ k, s1 (ix2 i k) = struck (fun k => nearness (P r0) (P k)) r k := ih1
    replace ih2 : ∀ k, s2 (ix2 i k) = struck (fun k => nearness (Q r0) (Q k)) r k := ih2
    replace ih3 : s3 (ix2 i 0) = ∑ r' ∈ Finset.range r, part P Q r0 r' := ih3
    have f1 : FirstMax (fun k => s1 (ix2 i k)) (picked (fun k => nearness (P r0) (P k)) r) := by
      rw [funext ih1]; exact firstMax_spec _
    have f2 : FirstMax (fun k => s2 (ix2 i k)) (picked (fun k => nearness (Q r0) (Q k)) r) := by
      rw [funext ih2]; exact firstMax_spec _
    refine ⟨fun k => ?_, fun k => ?_, ?_⟩
    · show k1_pay26 lanes1 s1 (pick0 lanes2 s1) (ix2 i k) = _
      rw [pay26_at s1 _ i k _ (pick0_at f1), ih1, struck_succ]
    · show k1_pay73 s2 (pick1 lanes2 s2) (ix2 i k) = _
      rw [pay73_at s2 _ i k _ (pick1_at f2), ih2, struck_succ]
    · rw [Finset.sum_range_succ, ← ih3]
      show s3 (ix2 i 0) + added _ (ix2 i 0) = _
      rw [added_at]
      refine congrArg (s3 (ix2 i 0) + ·) ?_
      have e : ∀ d : Fin 3, (subf (subf (taken1 (pick1 lanes2 s2) (k1_pay69 ha) (k1_pay70 hb) (k1_pay71 hc)) (k1_pay67 q))
          (rel0 (k1_pay61 p) (k1_pay63 ga) (k1_pay64 gb) (k1_pay65 gc) lanes2 s1)) (ix2 i d)
          = (Q (picked (fun k => nearness (Q r0) (Q k)) r) d - Q r0 d) - (P (picked (fun k => nearness (P r0) (P k)) r) d - P r0 d) := by
        intro d
        rw [rel0_eq]
        show (taken1 (pick1 lanes2 s2) (k1_pay69 ha) (k1_pay70 hb) (k1_pay71 hc) (ix2 i d) - k1_pay67 q (ix2 i d))
          - (taken1 (pick0 lanes2 s1) (k1_pay63 ga) (k1_pay64 gb) (k1_pay65 gc) (ix2 i d) - k1_pay61 p (ix2 i d)) = _
        rw [taken1_at (pick1_at f2), taken1_at (pick0_at f1), pay61_at, pay67_at, pay63_at, pay64_at, pay65_at, pay69_at, pay70_at,
          pay71_at, hg, hh, hp, hq]
      simp only [e]
      rfl
end

end Cert.KernelIdeal.Knn

end
-- ==== Proof.Stage1.lean ====
/- The second call's result: the sum, over both clouds' points, of what sixteen picks on each side add. -/
module

public import proofs.«01_k».proof.Proof.KernelIdealRun
public import proofs.«01_k».proof.Proof.Gains
public import Idealize.ShloMosaic.Lib.Pipeline.Value

@[expose] public section

set_option maxRecDepth 16384

noncomputable section

namespace Cert.KernelIdeal.Knn

open Idealize.ShloMosaic Idealize.ShloMosaic.TcCoe
open Idealize.ShloMosaic.Pipeline (Dat)
open Cert.KernelIdeal.Gen Cert.Knn

theorem zero3 : (![0, 0, 0] : Fin 3 → Nat) = fun _ => 0 := funext fun a => by fin_cases a <;> rfl

theorem pay1_at (acc : FVec Ideal S1024x1 .f32) (v : EReal) :
    k1_pay1 (F := Ideal) acc v = v + ∑ i : Fin 1024, acc (ix2 i 0) := by
  pointwise [k1_pay1]
  simp

theorem group16 (k : Fin 2048) : (k : ℕ) / 128 < 16 := by omega
theorem within16 (d : Fin 3) (k : Fin 2048) : 128 * (d : ℕ) + k % 128 < 384 := by omega

/-- The 1024 rows that a grid point reads. -/
def rowOf (n : ℕ) (hn : n < 2) (i : Fin 1024) : Fin 2048 := ⟨1024 * n + i, by omega⟩

/-- What the second body makes of a sum. -/
theorem sum1_at (g : grid1.Coords) (x0 x5 : Vec Ideal S1x2048x3 .f32) (x1 x6 : Vec Ideal S1x3x2048 .f32)
    (x2 x3 x4 x7 x8 x9 : Vec Ideal S1x16x384 .bf16) (P Q : Fin 2048 → Fin 3 → EReal) (v : EReal) (n : ℕ) (hn : n < 2)
    (hoff : k1_off1 g 0 = 0 ∧ k1_off1 g 1 = 1024 * n ∧ k1_off1 g 2 = 0)
    (h0 : ∀ r d, x0 (ix3 0 r d) = P r d) (h5 : ∀ r d, x5 (ix3 0 r d) = Q r d)
    (h1 : ∀ k d, x1 (ix3 0 d k) = P k d) (h6 : ∀ k d, x6 (ix3 0 d k) = Q k d)
    (hg : ∀ (k : Fin 2048) (d : Fin 3), x2 (ix3 0 ⟨k / 128, by omega⟩ ⟨128 * d + k % 128, by omega⟩)
      + x3 (ix3 0 ⟨k / 128, by omega⟩ ⟨128 * d + k % 128, by omega⟩) + x4 (ix3 0 ⟨k / 128, by omega⟩ ⟨128 * d + k % 128, by omega⟩) = P k d)
    (hh : ∀ (k : Fin 2048) (d : Fin 3), x7 (ix3 0 ⟨k / 128, by omega⟩ ⟨128 * d + k % 128, by omega⟩)
      + x8 (ix3 0 ⟨k / 128, by omega⟩ ⟨128 * d + k % 128, by omega⟩) + x9 (ix3 0 ⟨k / 128, by omega⟩ ⟨128 * d + k % 128, by omega⟩) = Q k d) :
    sum1 g x0 x1 x2 x3 x4 x5 x6 x7 x8 x9 v = v + ∑ i : Fin 1024, ∑ r ∈ Finset.range 16, part P Q (rowOf n hn i) r := by
  obtain ⟨o0, o1, o2⟩ := hoff
  have e1 : View.ld x1 rt = x1 := View.ld_unit_zero (S := S1x3x2048) zero3 _ x1
  have e6 : View.ld x6 rt = x6 := View.ld_unit_zero (S := S1x3x2048) zero3 _ x6
  have e2 : View.ld x2 rh = x2 := View.ld_unit_zero (S := S1x16x384) zero3 _ x2
  have e3 : View.ld x3 rh = x3 := View.ld_unit_zero (S := S1x16x384) zero3 _ x3
  have e4 : View.ld x4 rh = x4 := View.ld_unit_zero (S := S1x16x384) zero3 _ x4
  have e7 : View.ld x7 rh = x7 := View.ld_unit_zero (S := S1x16x384) zero3 _ x7
  have e8 : View.ld x8 rh = x8 := View.ld_unit_zero (S := S1x16x384) zero3 _ x8
  have e9 : View.ld x9 rh = x9 := View.ld_unit_zero (S := S1x16x384) zero3 _ x9
  have e0 : ∀ (i : Fin 1024) (d : Fin 3), View.ld x0 (rrow g) (ix3 0 i d) = P (rowOf n hn i) d := fun i d =>
    (congrArg x0 (funext fun a => by match a with
      | 0 => rfl
      | 1 => exact Fin.ext (by show k1_off1 g 1 + 1 * i.val = 1024 * n + i.val; omega)
      | 2 => exact Fin.ext (by show k1_off1 g 2 + 1 * d.val = d.val; omega))).trans (h0 (rowOf n hn i) d)
  have e5 : ∀ (i : Fin 1024) (d : Fin 3), View.ld x5 (rrow g) (ix3 0 i d) = Q (rowOf n hn i) d := fun i d =>
    (congrArg x5 (funext fun a => by match a with
      | 0 => rfl
      | 1 => exact Fin.ext (by show k1_off1 g 1 + 1 * i.val = 1024 * n + i.val; omega)
      | 2 => exact Fin.ext (by show k1_off1 g 2 + 1 * d.val = d.val; omega))).trans (h5 (rowOf n hn i) d)
  unfold sum1
  rw [pay1_at, e1, e6, e2, e3, e4, e7, e8, e9]
  refine congrArg (v + ·) (Finset.sum_congr rfl fun i _ => ?_)
  exact (trips_at (View.ld x0 (rrow g)) (View.ld x5 (rrow g)) x1 x6 x2 x3 x4 x7 x8 x9 P Q i (rowOf n hn i) (e0 i) (e5 i) h1 h6 hg hh 16).2.2

section
variable (V : (c : Dev nD) → (b : Ref sig .tc) → Buf (Elt Ideal) ((c : Thread nD τ).loc b)) (c : Dev nD)
  (P Q : Fin 2 → Fin 2048 → Fin 3 → EReal)

theorem lt4 (t : Fin cfg1.N) : t.val < 4 := lt_of_lt_of_eq t.isLt N_1

/-- Where each window's block starts. -/
theorem off1_at : ∀ t : Fin cfg1.N, k1_off1 (grid1.coords t) 0 = 0 ∧ k1_off1 (grid1.coords t) 1 = 1024 * (t.val % 2)
    ∧ k1_off1 (grid1.coords t) 2 = 0 := by decide +kernel
theorem at1_0 : ∀ t : Fin cfg1.N, win1_0.index t 0 * win1_0.size 0 = t.val / 2 ∧ win1_0.index t 1 * win1_0.size 1 = 0
    ∧ win1_0.index t 2 * win1_0.size 2 = 0 := by decide +kernel
theorem at1_1 : ∀ t : Fin cfg1.N, win1_1.index t 0 * win1_1.size 0 = t.val / 2 ∧ win1_1.index t 1 * win1_1.size 1 = 0
    ∧ win1_1.index t 2 * win1_1.size 2 = 0 := by decide +kernel
theorem at1_2 : ∀ t : Fin cfg1.N, win1_2.index t 0 * win1_2.size 0 = t.val / 2 ∧ win1_2.index t 1 * win1_2.size 1 = 0
    ∧ win1_2.index t 2 * win1_2.size 2 = 0 := by decide +kernel
theorem at1_3 : ∀ t : Fin cfg1.N, win1_3.index t 0 * win1_3.size 0 = t.val / 2 ∧ win1_3.index t 1 * win1_3.size 1 = 0
    ∧ win1_3.index t 2 * win1_3.size 2 = 0 := by decide +kernel
theorem at1_4 : ∀ t : Fin cfg1.N, win1_4.index t 0 * win1_4.size 0 = t.val / 2 ∧ win1_4.index t 1 * win1_4.size 1 = 0
    ∧ win1_4.index t 2 * win1_4.size 2 = 0 := by decide +kernel
theorem at1_5 : ∀ t : Fin cfg1.N, win1_5.index t 0 * win1_5.size 0 = t.val / 2 ∧ win1_5.index t 1 * win1_5.size 1 = 0
    ∧ win1_5.index t 2 * win1_5.size 2 = 0 := by decide +kernel
theorem at1_6 : ∀ t : Fin cfg1.N, win1_6.index t 0 * win1_6.size 0 = t.val / 2 ∧ win1_6.index t 1 * win1_6.size 1 = 0
    ∧ win1_6.index t 2 * win1_6.size 2 = 0 := by decide +kernel
theorem at1_7 : ∀ t : Fin cfg1.N, win1_7.index t 0 * win1_7.size 0 = t.val / 2 ∧ win1_7.index t 1 * win1_7.size 1 = 0
    ∧ win1_7.index t 2 * win1_7.size 2 = 0 := by decide +kernel
theorem at1_8 : ∀ t : Fin cfg1.N, win1_8.index t 0 * win1_8.size 0 = t.val / 2 ∧ win1_8.index t 1 * win1_8.size 1 = 0
    ∧ win1_8.index t 2 * win1_8.size 2 = 0 := by decide +kernel
theorem at1_9 : ∀ t : Fin cfg1.N, win1_9.index t 0 * win1_9.size 0 = t.val / 2 ∧ win1_9.index t 1 * win1_9.size 1 = 0
    ∧ win1_9.index t 2 * win1_9.size 2 = 0 := by decide +kernel

theorem blk1_0_at (t : Fin cfg1.N) (x : Fin 2048) (y : Fin 3) :
    blk1 V c 0 t (ix3 0 x y) = V c main_arg1 (ix3 ⟨t.val / 2, by have := lt4 t; omega⟩ x y) := by
  obtain ⟨e0, e1, e2⟩ := at1_0 t
  refine congrArg (V c main_arg1) (funext fun a => Fin.ext ?_)
  match a with
  | 0 => show win1_0.index t 0 * win1_0.size 0 + 1 * 0 = t.val / 2; omega
  | 1 => show win1_0.index t 1 * win1_0.size 1 + 1 * x.val = x.val; omega
  | 2 => show win1_0.index t 2 * win1_0.size 2 + 1 * y.val = y.val; omega
theorem blk1_1_at (t : Fin cfg1.N) (y : Fin 2048) (x : Fin 3) :
    blk1 V c 1 t (ix3 0 x y) = V c main_v38 (ix3 ⟨t.val / 2, by have := lt4 t; omega⟩ x y) := by
  obtain ⟨e0, e1, e2⟩ := at1_1 t
  refine congrArg (V c main_v38) (funext fun a => Fin.ext ?_)
  match a with
  | 0 => show win1_1.index t 0 * win1_1.size 0 + 1 * 0 = t.val / 2; omega
  | 1 => show win1_1.index t 1 * win1_1.size 1 + 1 * x.val = x.val; omega
  | 2 => show win1_1.index t 2 * win1_1.size 2 + 1 * y.val = y.val; omega
theorem blk1_2_at (t : Fin cfg1.N) (x : Fin 16) (y : Fin 384) :
    blk1 V c 2 t (ix3 0 x y) = V c main_v57 (ix3 ⟨t.val / 2, by have := lt4 t; omega⟩ x y) := by
  obtain ⟨e0, e1, e2⟩ := at1_2 t
  refine congrArg (V c main_v57) (funext fun a => Fin.ext ?_)
  match a with
  | 0 => show win1_2.index t 0 * win1_2.size 0 + 1 * 0 = t.val / 2; omega
  | 1 => show win1_2.index t 1 * win1_2.size 1 + 1 * x.val = x.val; omega
  | 2 => show win1_2.index t 2 * win1_2.size 2 + 1 * y.val = y.val; omega
theorem blk1_3_at (t : Fin cfg1.N) (x : Fin 16) (y : Fin 384) :
    blk1 V c 3 t (ix3 0 x y) = V c main_v73 (ix3 ⟨t.val / 2, by have := lt4 t; omega⟩ x y) := by
  obtain ⟨e0, e1, e2⟩ := at1_3 t
  refine congrArg (V c main_v73) (funext fun a => Fin.ext ?_)
  match a with
  | 0 => show win1_3.index t 0 * win1_3.size 0 + 1 * 0 = t.val / 2; omega
  | 1 => show win1_3.index t 1 * win1_3.size 1 + 1 * x.val = x.val; omega
  | 2 => show win1_3.index t 2 * win1_3.size 2 + 1 * y.val = y.val; omega
theorem blk1_4_at (t : Fin cfg1.N) (x : Fin 16) (y : Fin 384) :
    blk1 V c 4 t (ix3 0 x y) = V c main_v75 (ix3 ⟨t.val / 2, by have := lt4 t; omega⟩ x y) := by
  obtain ⟨e0, e1, e2⟩ := at1_4 t
  refine congrArg (V c main_v75) (funext fun a => Fin.ext ?_)
  match a with
  | 0 => show win1_4.index t 0 * win1_4.size 0 + 1 * 0 = t.val / 2; omega
  | 1 => show win1_4.index t 1 * win1_4.size 1 + 1 * x.val = x.val; omega
  | 2 => show win1_4.index t 2 * win1_4.size 2 + 1 * y.val = y.val; omega
theorem blk1_5_at (t : Fin cfg1.N) (x : Fin 2048) (y : Fin 3) :
    blk1 V c 5 t (ix3 0 x y) = V c main_v37 (ix3 ⟨t.val / 2, by have := lt4 t; omega⟩ x y) := by
  obtain ⟨e0, e1, e2⟩ := at1_5 t
  refine congrArg (V c main_v37) (funext fun a => Fin.ext ?_)
  match a with
  | 0 => show win1_5.index t 0 * win1_5.size 0 + 1 * 0 = t.val / 2; omega
  | 1 => show win1_5.index t 1 * win1_5.size 1 + 1 * x.val = x.val; omega
  | 2 => show win1_5.index t 2 * win1_5.size 2 + 1 * y.val = y.val; omega
theorem blk1_6_at (t : Fin cfg1.N) (y : Fin 2048) (x : Fin 3) :
    blk1 V c 6 t (ix3 0 x y) = V c main_v39 (ix3 ⟨t.val / 2, by have := lt4 t; omega⟩ x y) := by
  obtain ⟨e0, e1, e2⟩ := at1_6 t
  refine congrArg (V c main_v39) (funext fun a => Fin.ext ?_)
  match a with
  | 0 => show win1_6.index t 0 * win1_6.size 0 + 1 * 0 = t.val / 2; omega
  | 1 => show win1_6.index t 1 * win1_6.size 1 + 1 * x.val = x.val; omega
  | 2 => show win1_6.index t 2 * win1_6.size 2 + 1 * y.val = y.val; omega
theorem blk1_7_at (t : Fin cfg1.N) (x : Fin 16) (y : Fin 384) :
    blk1 V c 7 t (ix3 0 x y) = V c main_v93 (ix3 ⟨t.val / 2, by have := lt4 t; omega⟩ x y) := by
  obtain ⟨e0, e1, e2⟩ := at1_7 t
  refine congrArg (V c main_v93) (funext fun a => Fin.ext ?_)
  match a with
  | 0 => show win1_7.index t 0 * win1_7.size 0 + 1 * 0 = t.val / 2; omega
  | 1 => show win1_7.index t 1 * win1_7.size 1 + 1 * x.val = x.val; omega
  | 2 => show win1_7.index t 2 * win1_7.size 2 + 1 * y.val = y.val; omega
theorem blk1_8_at (t : Fin cfg1.N) (x : Fin 16) (y : Fin 384) :
    blk1 V c 8 t (ix3 0 x y) = V c main_v109 (ix3 ⟨t.val / 2, by have := lt4 t; omega⟩ x y) := by
  obtain ⟨e0, e1, e2⟩ := at1_8 t
  refine congrArg (V c main_v109) (funext fun a => Fin.ext ?_)
  match a with
  | 0 => show win1_8.index t 0 * win1_8.size 0 + 1 * 0 = t.val / 2; omega
  | 1 => show win1_8.index t 1 * win1_8.size 1 + 1 * x.val = x.val; omega
  | 2 => show win1_8.index t 2 * win1_8.size 2 + 1 * y.val = y.val; omega
theorem blk1_9_at (t : Fin cfg1.N) (x : Fin 16) (y : Fin 384) :
    blk1 V c 9 t (ix3 0 x y) = V c main_v111 (ix3 ⟨t.val / 2, by have := lt4 t; omega⟩ x y) := by
  obtain ⟨e0, e1, e2⟩ := at1_9 t
  refine congrArg (V c main_v111) (funext fun a => Fin.ext ?_)
  match a with
  | 0 => show win1_9.index t 0 * win1_9.size 0 + 1 * 0 = t.val / 2; omega
  | 1 => show win1_9.index t 1 * win1_9.size 1 + 1 * x.val = x.val; omega
  | 2 => show win1_9.index t 2 * win1_9.size 2 + 1 * y.val = y.val; omega

/-- What grid point `n` adds. -/
def pointSum (n : ℕ) : EReal := ∑ i : Fin 1024, ∑ r ∈ Finset.range 16,
  part (P ⟨n / 2 % 2, Nat.mod_lt _ two_pos⟩) (Q ⟨n / 2 % 2, Nat.mod_lt _ two_pos⟩) (rowOf (n % 2) (Nat.mod_lt _ two_pos) i) r

variable (h0 : ∀ b r d, V c main_arg1 (ix3 b r d) = P b r d) (h1 : ∀ b k d, V c main_v38 (ix3 b d k) = P b k d)
  (h5 : ∀ b r d, V c main_v37 (ix3 b r d) = Q b r d) (h6 : ∀ b k d, V c main_v39 (ix3 b d k) = Q b k d)
  (hg : ∀ (b : Fin 2) (k : Fin 2048) (d : Fin 3), HAdd.hAdd (α := EReal) (β := EReal) (γ := EReal) (HAdd.hAdd (α := EReal) (β := EReal) (γ := EReal)
      (V c main_v57 (ix3 b ⟨k / 128, group16 k⟩ ⟨128 * d + k % 128, within16 d k⟩))
      (V c main_v73 (ix3 b ⟨k / 128, group16 k⟩ ⟨128 * d + k % 128, within16 d k⟩)))
      (V c main_v75 (ix3 b ⟨k / 128, group16 k⟩ ⟨128 * d + k % 128, within16 d k⟩)) = P b k d)
  (hh : ∀ (b : Fin 2) (k : Fin 2048) (d : Fin 3), HAdd.hAdd (α := EReal) (β := EReal) (γ := EReal) (HAdd.hAdd (α := EReal) (β := EReal) (γ := EReal)
      (V c main_v93 (ix3 b ⟨k / 128, group16 k⟩ ⟨128 * d + k % 128, within16 d k⟩))
      (V c main_v109 (ix3 b ⟨k / 128, group16 k⟩ ⟨128 * d + k % 128, within16 d k⟩)))
      (V c main_v111 (ix3 b ⟨k / 128, group16 k⟩ ⟨128 * d + k % 128, within16 d k⟩)) = Q b k d)
include h0 h1 h5 h6 hg hh

theorem add1_at (t : Fin cfg1.N) (v : EReal) : add1 V c t v = v + pointSum P Q t.val := by
  have e : (⟨t.val / 2 % 2, Nat.mod_lt _ two_pos⟩ : Fin 2) = ⟨t.val / 2, by have := lt4 t; omega⟩ :=
    Fin.ext (by have := lt4 t; simp only []; omega)
  unfold pointSum
  rw [e]
  exact sum1_at (grid1.coords t) _ _ _ _ _ _ _ _ _ _ (P ⟨t.val / 2, by have := lt4 t; omega⟩) (Q ⟨t.val / 2, by have := lt4 t; omega⟩) v (t.val % 2) _
    (off1_at t) (fun r d => (blk1_0_at V c t r d).trans (h0 _ _ _)) (fun r d => (blk1_5_at V c t r d).trans (h5 _ _ _))
    (fun k d => (blk1_1_at V c t k d).trans (h1 _ _ _)) (fun k d => (blk1_6_at V c t k d).trans (h6 _ _ _))
    (fun k d => by rw [blk1_2_at, blk1_3_at, blk1_4_at]; exact hg _ k d)
    (fun k d => by rw [blk1_7_at, blk1_8_at, blk1_9_at]; exact hh _ k d)

theorem sumAt_at (n : ℕ) (hn : n < cfg1.N) : sumAt V c n hn = ∑ t ∈ Finset.range (n + 1), pointSum P Q t := by
  induction n with
  | zero =>
    rw [Finset.sum_range_one]
    refine (add1_at V c P Q h0 h1 h5 h6 hg hh ⟨0, hn⟩ _).trans ?_
    rw [show (Scalar.ofBits (F := Ideal) .f32 0x00000000#32 : EReal) = 0 from Ideal.ofBits_zero .f32]
    exact zero_add _
  | succ n ih =>
    rw [Finset.sum_range_succ, ← ih (Nat.lt_of_succ_lt hn)]
    exact add1_at V c P Q h0 h1 h5 h6 hg hh ⟨n + 1, hn⟩ _

/-- The sum over every grid point. -/
def total : EReal := ∑ t ∈ Finset.range 4, pointSum P Q t

theorem flushed1 (t : Fin cfg1.N) (hf : (cfg1.win 10).flush t = true) :
    (data1 V c).flushed 10 t = ((cfg1.win 10).blk t).view.read (Elt Ideal) (fun _ => total P Q) := by
  have h3 : t.val % 4 = 3 := (flush1_10 t).1 hf
  have e3 : t.val = 3 := by have := lt4 t; omega
  show (cfg1.win 10).cut (grid1.coords t) ((data1 V c).after 10 t) = _
  rw [left1_10]
  funext j
  show sumAt V c t.val t.isLt = total P Q
  rw [sumAt_at V c P Q h0 h1 h5 h6 hg hh, e3]
  rfl

omit h0 h1 h5 h6 hg hh in
theorem cover1 (i : S1x1.Idx) : ∃ t : Fin cfg1.N, (cfg1.win 10).flush t = true ∧ i ∈ ((cfg1.win 10).blk t).view.set := by
  have hN : cfg1.N = 4 := N_1
  have e : ∀ t : Fin cfg1.N, win1_10.index t 0 * win1_10.size 0 = 0 ∧ win1_10.index t 1 * win1_10.size 1 = 0
      ∧ win1_10.xsize (grid1.coords t) 0 = 1 ∧ win1_10.xsize (grid1.coords t) 1 = 1 := by decide +kernel
  obtain ⟨t, ht⟩ : ∃ t : Fin cfg1.N, t.val = 3 := ⟨⟨3, by omega⟩, rfl⟩
  refine ⟨t, (flush1_10 _).2 (by omega), ?_⟩
  show i ∈ ((View.whole main_v112).slice (win1_10.rect t)).set
  rw [View.set_slice_whole, Rect.mem_set_unit]
  obtain ⟨e0, e1, x0, x1⟩ := e t
  have h0 : (i 0 : Nat) < 1 := (i 0).isLt
  have h1 : (i 1 : Nat) < 1 := (i 1).isLt
  intro a
  match a with
  | 0 => show win1_10.index t 0 * win1_10.size 0 ≤ (i 0 : Nat) ∧ (i 0 : Nat) < win1_10.index t 0 * win1_10.size 0 + win1_10.xsize (grid1.coords t) 0; omega
  | 1 => show win1_10.index t 1 * win1_10.size 1 ≤ (i 1 : Nat) ∧ (i 1 : Nat) < win1_10.index t 1 * win1_10.size 1 + win1_10.xsize (grid1.coords t) 1; omega

theorem array1 : (data1 V c).arrAt 10 cfg1.N = fun _ => total P Q :=
  (data1 V c).arrAt_eq_of_cover 10 (fun _ => total P Q) (fun t hf => flushed1 V c P Q h0 h1 h5 h6 hg hh t hf) cover1
end

end Cert.KernelIdeal.Knn

end
-- ==== Proof.Host.lean ====
/- What the host operations leave: the transposed clouds and, of every cloud, three grouped tables that add up to it. -/
module

public import proofs.«01_k».proof.Proof.KernelIdealRun
public import Idealize.ShloMosaic.Lib.Pointwise
public import Idealize.ShloMosaic.Lib.ValueLayout
public import Idealize.ShloMosaic.Lib.StableHlo.RunRead

@[expose] public section

set_option maxRecDepth 16384

noncomputable section

namespace Cert.KernelIdeal.Knn

open Idealize.ShloMosaic Idealize.ShloMosaic.TcCoe Idealize.ShloMosaic.StableHlo
open Cert.KernelIdeal.Gen

theorem split_sum {x y : EReal} (h : y = x) (h1 : x ≠ ⊤) (h2 : x ≠ ⊥) : y + (y - y) + ((y - y) - (y - y)) = x := by
  subst h
  induction y using EReal.rec with
  | bot => exact absurd rfl h2
  | top => exact absurd rfl h1
  | coe a => norm_cast; ring_nf

theorem gt_self (a : EReal) : FloatOps.cmpf (F := Ideal) (φ := .f32) .ogt a a = 0#1 := by
  rw [Ideal.cmpf_def]
  simp [Ideal.cmp]

/-! Clouds of 8192 points, grouped by 128. -/

def rows64 (x : FVec Ideal S2x8192x3 .f32) : FVec Ideal S2x64x384 .f32 :=
  shapeCast S2x64x384 (transpose S2x64x3x128 [0, 1, 3, 2] (shapeCast S2x64x128x3 x shapeCasts_S2x8192x3_S2x64x128x3)
    transposes_S2x64x128x3_S2x64x3x128_0_1_3_2) shapeCasts_S2x64x3x128_S2x64x384
/-- Rounded, and -/
def rounded64 (y : FVec Ideal S2x64x384 .f32) : FVec Ideal S2x64x384 .f32 :=
  extf .f32 (truncf .bf16 y bitsLt_bf16_f32) bitsLt_bf16_f32
/-- stepped back toward zero where that went past the entry. -/
def cut64 (y : FVec Ideal S2x64x384 .f32) : FVec Ideal S2x64x384 .f32 :=
  select (cmpf .ogt (Host.absf (rounded64 y)) (Host.absf y))
    (minimumf (maximumf (rounded64 (mulf (rounded64 y)
      (broadcastInDim S2x64x384 ![] bcast_S_S2x64x384 (constant S_ .f32 0x3F7F0000#32))))
      (broadcastInDim S2x64x384 ![] bcast_S_S2x64x384 (constant S_ .f32 0xFF7F0000#32)))
      (broadcastInDim S2x64x384 ![] bcast_S_S2x64x384 (constant S_ .f32 0x7F7F0000#32)))
    (rounded64 y)
/-- What is left. -/
def rest64 (y : FVec Ideal S2x64x384 .f32) : FVec Ideal S2x64x384 .f32 := subf y (cut64 y)

theorem cut64_eq (y : FVec Ideal S2x64x384 .f32) : cut64 y = y := by
  funext i
  show Scalar.select (FloatOps.cmpf (F := Ideal) (φ := .f32) .ogt _ _) _ (y i) = y i
  exact if_neg fun h => absurd ((gt_self (Host.absf y i)).symm.trans h) (by decide)
theorem rows64_at (x : FVec Ideal S2x8192x3 .f32) (b : Fin 2) (k : Fin 8192) (d : Fin 3) :
    rows64 x (ix3 b ⟨k / 128, by omega⟩ ⟨128 * d + k % 128, by omega⟩) = x (ix3 b k d) := by
  have e : ∀ (h : Fin 64) (m : Fin 384), rows64 x (ix3 b h m) = x (ix3 b ⟨h * 128 + m % 128, by omega⟩ ⟨m / 128, by omega⟩) := fun h m => by
    pointwise [rows64]
  rw [e]
  refine congrArg₂ (fun k d => x (ix3 b k d)) (Fin.ext ?_) (Fin.ext ?_)
  · simp only []; omega
  · simp only []; omega
/-- The three tables add up to the points. -/
theorem parts64_at (x : FVec Ideal S2x8192x3 .f32) (hx : ∀ b k d, x (ix3 b k d) ≠ ⊤ ∧ x (ix3 b k d) ≠ ⊥) (b : Fin 2) (k : Fin 8192) (d : Fin 3) :
    HAdd.hAdd (α := EReal) (β := EReal) (γ := EReal) (HAdd.hAdd (α := EReal) (β := EReal) (γ := EReal)
      (truncf .bf16 (cut64 (rows64 x)) bitsLt_bf16_f32 (ix3 b ⟨k / 128, by omega⟩ ⟨128 * d + k % 128, by omega⟩))
      (truncf .bf16 (cut64 (rest64 (rows64 x))) bitsLt_bf16_f32 (ix3 b ⟨k / 128, by omega⟩ ⟨128 * d + k % 128, by omega⟩)))
      (truncf .bf16 (rest64 (rest64 (rows64 x))) bitsLt_bf16_f32 (ix3 b ⟨k / 128, by omega⟩ ⟨128 * d + k % 128, by omega⟩)) = x (ix3 b k d) := by
  have hy := rows64_at x b k d
  simp only [rest64, cut64_eq]
  refine split_sum (y := rows64 x (ix3 b ⟨k / 128, by omega⟩ ⟨128 * d + k % 128, by omega⟩)) hy (hx b k d).1 (hx b k d).2
theorem turned8192_at (x : FVec Ideal S2x8192x3 .f32) (b : Fin 2) (k : Fin 8192) (d : Fin 3) :
    transpose S2x3x8192 [0, 2, 1] x transposes_S2x8192x3_S2x3x8192_0_2_1 (ix3 b d k) = x (ix3 b k d) := by
  pointwise []

/-! Clouds of 2048 points, grouped by 128. -/

def rows16 (x : FVec Ideal S2x2048x3 .f32) : FVec Ideal S2x16x384 .f32 :=
  shapeCast S2x16x384 (transpose S2x16x3x128 [0, 1, 3, 2] (shapeCast S2x16x128x3 x shapeCasts_S2x2048x3_S2x16x128x3)
    transposes_S2x16x128x3_S2x16x3x128_0_1_3_2) shapeCasts_S2x16x3x128_S2x16x384
/-- Rounded, and -/
def rounded16 (y : FVec Ideal S2x16x384 .f32) : FVec Ideal S2x16x384 .f32 :=
  extf .f32 (truncf .bf16 y bitsLt_bf16_f32) bitsLt_bf16_f32
/-- stepped back toward zero where that went past the entry. -/
def cut16 (y : FVec Ideal S2x16x384 .f32) : FVec Ideal S2x16x384 .f32 :=
  select (cmpf .ogt (Host.absf (rounded16 y)) (Host.absf y))
    (minimumf (maximumf (rounded16 (mulf (rounded16 y)
      (broadcastInDim S2x16x384 ![] bcast_S_S2x16x384 (constant S_ .f32 0x3F7F0000#32))))
      (broadcastInDim S2x16x384 ![] bcast_S_S2x16x384 (constant S_ .f32 0xFF7F0000#32)))
      (broadcastInDim S2x16x384 ![] bcast_S_S2x16x384 (constant S_ .f32 0x7F7F0000#32)))
    (rounded16 y)
/-- What is left. -/
def rest16 (y : FVec Ideal S2x16x384 .f32) : FVec Ideal S2x16x384 .f32 := subf y (cut16 y)

theorem cut16_eq (y : FVec Ideal S2x16x384 .f32) : cut16 y = y := by
  funext i
  show Scalar.select (FloatOps.cmpf (F := Ideal) (φ := .f32) .ogt _ _) _ (y i) = y i
  exact if_neg fun h => absurd ((gt_self (Host.absf y i)).symm.trans h) (by decide)
theorem rows16_at (x : FVec Ideal S2x2048x3 .f32) (b : Fin 2) (k : Fin 2048) (d : Fin 3) :
    rows16 x (ix3 b ⟨k / 128, by omega⟩ ⟨128 * d + k % 128, by omega⟩) = x (ix3 b k d) := by
  have e : ∀ (h : Fin 16) (m : Fin 384), rows16 x (ix3 b h m) = x (ix3 b ⟨h * 128 + m % 128, by omega⟩ ⟨m / 128, by omega⟩) := fun h m => by
    pointwise [rows16]
  rw [e]
  refine congrArg₂ (fun k d => x (ix3 b k d)) (Fin.ext ?_) (Fin.ext ?_)
  · simp only []; omega
  · simp only []; omega
/-- The three tables add up to the points. -/
theorem parts16_at (x : FVec Ideal S2x2048x3 .f32) (hx : ∀ b k d, x (ix3 b k d) ≠ ⊤ ∧ x (ix3 b k d) ≠ ⊥) (b : Fin 2) (k : Fin 2048) (d : Fin 3) :
    HAdd.hAdd (α := EReal) (β := EReal) (γ := EReal) (HAdd.hAdd (α := EReal) (β := EReal) (γ := EReal)
      (truncf .bf16 (cut16 (rows16 x)) bitsLt_bf16_f32 (ix3 b ⟨k / 128, by omega⟩ ⟨128 * d + k % 128, by omega⟩))
      (truncf .bf16 (cut16 (rest16 (rows16 x))) bitsLt_bf16_f32 (ix3 b ⟨k / 128, by omega⟩ ⟨128 * d + k % 128, by omega⟩)))
      (truncf .bf16 (rest16 (rest16 (rows16 x))) bitsLt_bf16_f32 (ix3 b ⟨k / 128, by omega⟩ ⟨128 * d + k % 128, by omega⟩)) = x (ix3 b k d) := by
  have hy := rows16_at x b k d
  simp only [rest16, cut16_eq]
  refine split_sum (y := rows16 x (ix3 b ⟨k / 128, by omega⟩ ⟨128 * d + k % 128, by omega⟩)) hy (hx b k d).1 (hx b k d).2
theorem turned2048_at (x : FVec Ideal S2x2048x3 .f32) (b : Fin 2) (k : Fin 2048) (d : Fin 3) :
    transpose S2x3x2048 [0, 2, 1] x transposes_S2x2048x3_S2x3x2048_0_2_1 (ix3 b d k) = x (ix3 b k d) := by
  pointwise []

section
variable (V : Valuation τ sig (Elt Ideal))
theorem host0_v0 : after hostOps0 V (Proc.devRef .tc main_v0)
    = transpose S2x3x8192 [0, 2, 1] (V (Proc.devRef .tc main_arg0)) transposes_S2x8192x3_S2x3x8192_0_2_1 := by
  after_reads_simp
theorem host0_v18 : after hostOps0 V (Proc.devRef .tc main_v18) = truncf .bf16 (cut64 (rows64 (V (Proc.devRef .tc main_arg0)))) bitsLt_bf16_f32 := by
  after_reads_simp
  rfl
theorem host0_v34 : after hostOps0 V (Proc.devRef .tc main_v34)
    = truncf .bf16 (cut64 (rest64 (rows64 (V (Proc.devRef .tc main_arg0))))) bitsLt_bf16_f32 := by
  after_reads_simp
  rfl
theorem host0_v36 : after hostOps0 V (Proc.devRef .tc main_v36)
    = truncf .bf16 (rest64 (rest64 (rows64 (V (Proc.devRef .tc main_arg0))))) bitsLt_bf16_f32 := by
  after_reads_simp
  rfl
theorem host1_v38 : after hostOps1 V (Proc.devRef .tc main_v38)
    = transpose S2x3x2048 [0, 2, 1] (V (Proc.devRef .tc main_arg1)) transposes_S2x2048x3_S2x3x2048_0_2_1 := by
  after_reads_simp
theorem host1_v39 : after hostOps1 V (Proc.devRef .tc main_v39)
    = transpose S2x3x2048 [0, 2, 1] (V (Proc.devRef .tc main_v37)) transposes_S2x2048x3_S2x3x2048_0_2_1 := by
  after_reads_simp
theorem host1_v57 : after hostOps1 V (Proc.devRef .tc main_v57)
    = truncf .bf16 (cut16 (rows16 (V (Proc.devRef .tc main_arg1)))) bitsLt_bf16_f32 := by
  after_reads_simp
  rfl
theorem host1_v73 : after hostOps1 V (Proc.devRef .tc main_v73)
    = truncf .bf16 (cut16 (rest16 (rows16 (V (Proc.devRef .tc main_arg1))))) bitsLt_bf16_f32 := by
  after_reads_simp
  rfl
theorem host1_v75 : after hostOps1 V (Proc.devRef .tc main_v75)
    = truncf .bf16 (rest16 (rest16 (rows16 (V (Proc.devRef .tc main_arg1))))) bitsLt_bf16_f32 := by
  after_reads_simp
  rfl
theorem host1_v93 : after hostOps1 V (Proc.devRef .tc main_v93)
    = truncf .bf16 (cut16 (rows16 (V (Proc.devRef .tc main_v37)))) bitsLt_bf16_f32 := by
  after_reads_simp
  rfl
theorem host1_v109 : after hostOps1 V (Proc.devRef .tc main_v109)
    = truncf .bf16 (cut16 (rest16 (rows16 (V (Proc.devRef .tc main_v37))))) bitsLt_bf16_f32 := by
  after_reads_simp
  rfl
theorem host1_v111 : after hostOps1 V (Proc.devRef .tc main_v111)
    = truncf .bf16 (rest16 (rest16 (rows16 (V (Proc.devRef .tc main_v37))))) bitsLt_bf16_f32 := by
  after_reads_simp
  rfl
theorem host2_v115 : after hostOps2 V (Proc.devRef .tc main_v115)
    = (Host.divf (mulf (constant S_ .f32 0x3F800000#32) (shapeCast S_ (V (Proc.devRef .tc main_v112) : FVec Ideal S1x1 .f32) shapeCasts_S1x1_S_))
        (constant S_ .f32 0x48400000#32) : FVec Ideal S_ .f32) := by
  after_reads_simp
  rfl
end

end Cert.KernelIdeal.Knn

end
-- ==== Proof.KernelValue.lean ====
/- The kernel's result, index by index: the sum the second call leaves, over the number of entries. -/
module

public import proofs.«01_k».proof.Proof.Stage0
public import proofs.«01_k».proof.Proof.Stage1
public import proofs.«01_k».proof.Proof.Host

@[expose] public section

set_option maxRecDepth 16384

noncomputable section

namespace Cert.KernelIdeal.Knn

open Idealize.ShloMosaic Idealize.ShloMosaic.TcCoe
open Cert.KernelIdeal.Gen Cert.Knn

section
variable (m : (ℓ : Loc nD τ sig) → Buf (Elt Ideal) ℓ) (ρ : Dev nD → PrngReg) (c : Dev nD)

/-- The two clouds. -/
def others (b : Fin 2) (k : Fin 8192) (d : Fin 3) : EReal := m ((c : Thread nD τ).loc main_arg0) (ix3 b k d)
def points (b : Fin 2) (k : Fin 2048) (d : Fin 3) : EReal := m ((c : Thread nD τ).loc main_arg1) (ix3 b k d)
/-- The second, each point replaced by its nearest in the first. -/
abbrev moved : Fin 2 → Fin 2048 → Fin 3 → EReal := nearestPoint (points m c) (others m c)

variable (hx : ∀ b k d, others m c b k d ≠ ⊤ ∧ others m c b k d ≠ ⊥) (hy : ∀ b k d, points m c b k d ≠ ⊤ ∧ points m c b k d ≠ ⊥)

include hx in
theorem result0 : W2 m ρ c (Proc.devRef .tc main_v37) = whole0 (points m c) (others m c) := by
  refine (W2_arr m ρ c 5).trans ?_
  refine array0 (U1 m ρ) c (points m c) (others m c) (fun b r d => ?_) (fun b k d => ?_) (fun b k d => ?_)
  · exact congrFun (W1_args m ρ c main_arg1 (by decide)) _
  · refine (congrFun (host0_v0 (W0 m ρ c)) _).trans ?_
    exact turned8192_at _ b k d
  · refine Eq.trans ?_ (parts64_at (W0 m ρ c (Proc.devRef .tc main_arg0)) hx b k d)
    exact congr (congrArg HAdd.hAdd (congr (congrArg HAdd.hAdd (congrFun (host0_v18 (W0 m ρ c)) _)) (congrFun (host0_v34 (W0 m ρ c)) _)))
      (congrFun (host0_v36 (W0 m ρ c)) _)

include hx hy in
theorem result1 : W4 m ρ c (Proc.devRef .tc main_v112) = fun _ => total (points m c) (moved m c) := by
  have h37 := result0 m ρ c hx
  have a1 : W2 m ρ c (Proc.devRef .tc main_arg1) = m ((c : Thread nD τ).loc main_arg1) := W2_args m ρ c main_arg1 (by decide)
  have hq : ∀ b k d, whole0 (points m c) (others m c) (ix3 b k d) ≠ ⊤ ∧ whole0 (points m c) (others m c) (ix3 b k d) ≠ ⊥ :=
    fun b k d => hx b _ d
  refine (W4_arr m ρ c 10).trans ?_
  refine array1 (U3 m ρ) c (points m c) (moved m c) (fun b r d => ?_) (fun b k d => ?_) (fun b r d => ?_) (fun b k d => ?_)
    (fun b k d => ?_) (fun b k d => ?_)
  · exact congrFun ((W3_of m ρ c main_arg1 (args_out.2.1 _ (by decide))).trans a1) _
  · refine (congrFun (host1_v38 (W2 m ρ c)) _).trans ?_
    rw [a1]
    exact turned2048_at _ b k d
  · exact congrFun ((W3_of m ρ c main_v37 (by decide)).trans h37) _
  · refine (congrFun (host1_v39 (W2 m ρ c)) _).trans ?_
    rw [h37]
    exact turned2048_at _ b k d
  · refine Eq.trans ?_ (parts16_at (m ((c : Thread nD τ).loc main_arg1)) hy b k d)
    rw [← a1]
    exact congr (congrArg HAdd.hAdd (congr (congrArg HAdd.hAdd (congrFun (host1_v57 (W2 m ρ c)) _)) (congrFun (host1_v73 (W2 m ρ c)) _)))
      (congrFun (host1_v75 (W2 m ρ c)) _)
  · refine Eq.trans ?_ (parts16_at (whole0 (points m c) (others m c)) hq b k d)
    rw [← h37]
    exact congr (congrArg HAdd.hAdd (congr (congrArg HAdd.hAdd (congrFun (host1_v93 (W2 m ρ c)) _)) (congrFun (host1_v109 (W2 m ρ c)) _)))
      (congrFun (host1_v111 (W2 m ρ c)) _)

include hx hy in
/-- The kernel's result. -/
theorem value : W5 m ρ c (Proc.devRef .tc main_v115)
    = fun _ => Ideal.div (Ideal.ofBits .f32 0x3F800000#32 * total (points m c) (moved m c)) (Ideal.ofBits .f32 0x48400000#32) := by
  refine (host2_v115 (W4 m ρ c)).trans ?_
  rw [result1 m ρ c hx hy]
  rfl
end

end Cert.KernelIdeal.Knn

end
-- ==== Proof.RefDist.lean ====
/- The reference's distances and nearnesses, entry by entry. -/
module

public import proofs.«01_k».proof.Proof.ReferenceRun
public import proofs.«01_k».proof.Proof.Gains
public import proofs.«01_k».proof.Proof.Nearest
public import Idealize.ShloMosaic.Lib.Pointwise

@[expose] public section

set_option maxRecDepth 16384

noncomputable section

namespace Cert.ReferenceIdeal.Knn

open Idealize.ShloMosaic
open Cert.ReferenceIdeal.Gen Cert.Knn

theorem dist_at (x : FVec Ideal S2x8192x3 .f32) (y : FVec Ideal S2x2048x3 .f32) (b : Fin 2) (i : Fin 2048) (k : Fin 8192) :
    dist x y (ix3 b i k) = Cert.KernelIdeal.Knn.sqDist (fun d => y (ix3 b i d)) (fun d => x (ix3 b k d)) := by
  unfold Cert.KernelIdeal.Knn.sqDist
  pointwise [dist, Fin.sum_univ_three]
  done

theorem sq3_eq (a : Fin 3 → EReal) : ∑ x, a x * a x = sq3 a := Fin.sum_univ_three _

theorem nearness_at (p : FVec Ideal S2x2048x3 .f32) (b : Fin 2) (i k : Fin 2048) :
    nearness p (ix3 b i k) = Cert.Knn.nearness (fun d => p (ix3 b i d)) (fun d => p (ix3 b k d)) := by
  unfold Cert.Knn.nearness
  rw [← sq3_eq, ← sq3_eq]
  pointwise [nearness]
  done

/-- A place within range, after the wrap of a negative one. -/
theorem wrap_lt (t j : ℕ) (hj : j ≤ t) (hn : t ≤ 8191) (x : BitVec 32) :
    min (Scalar.select (IntOp.cmpi .slt (BitVec.ofNat 32 j) 0#32) x (BitVec.ofNat 32 j)).toInt.toNat t = j := by
  have e : (BitVec.ofNat 32 j).toInt = j := by
    rw [BitVec.toInt_ofNat']
    norm_num [Int.bmod]
    omega
  have h : IntOp.cmpi .slt (BitVec.ofNat 32 j) 0#32 = 0#1 := by
    show BitVec.ofBool (BitVec.slt _ _) = _
    have : BitVec.slt (BitVec.ofNat 32 j) 0#32 = false := by
      rw [BitVec.slt, e]; simp
    rw [this]; rfl
  rw [h]
  show min (BitVec.ofNat 32 j).toInt.toNat t = j
  rw [e]
  simp only [Int.toNat_natCast]
  omega

theorem gathered16_at (p : FVec Ideal S2x2048x3 .f32) (idx : IVec S2x2048x16x1 32) (b : Fin 2) (i : Fin 2048) (r : Fin 16) (d : Fin 3) :
    Host.gather gather_S2x2048x3_S2x2048x16x1_S2x2048x16x3_3_1_0_0_1_3_113 p idx (ix4 b i r d)
      = p (ix3 b ⟨min (idx (ix4 b i r 0)).toInt.toNat 2047, by omega⟩ d) := by
  generalize hD : gather_S2x2048x3_S2x2048x16x1_S2x2048x16x3_3_1_0_0_1_3_113 = D
  have hs : D.startIndexMap = [1] := by rw [← hD]; rfl
  have hc : D.collapsedSliceDims = [1] := by rw [← hD]; rfl
  have hb : D.operandBatchingDims = [0] := by rw [← hD]; rfl
  unfold Host.gather
  congr 1
  funext a
  refine Fin.ext ?_
  show D.start (ix4 b i r d) idx a + D.batchCoord (ix4 b i r d) a + D.offCoord (ix4 b i r d) a = _
  obtain rfl | rfl | rfl : a = 0 ∨ a = 1 ∨ a = 2 := by
    match a with
    | ⟨0, _⟩ => exact Or.inl rfl
    | ⟨1, _⟩ => exact Or.inr (Or.inl rfl)
    | ⟨2, _⟩ => exact Or.inr (Or.inr rfl)
  · have hm : (0 : Fin 3) ∈ D.operandBatchingDims := by rw [hb]; decide
    rw [GatherDims.start_batching _ _ _ _ hm, GatherDims.offCoord_eq_zero _ _ _ (fun h => ((GatherDims.mem_sKept _ _).mp h).2 hm)]
    unfold GatherDims.batchCoord
    rw [dif_pos hm]
    subst hD
    simp only [Nat.zero_add, Nat.add_zero]
    rfl
  · have hm : (1 : Fin 3) ∈ D.startIndexMap := by rw [hs]; decide
    rw [GatherDims.batchCoord_eq_zero _ _ _ (by rw [hb]; decide),
      GatherDims.offCoord_eq_zero _ _ _ (fun h => ((GatherDims.mem_sKept _ _).mp h).1 (by rw [hc]; decide))]
    unfold GatherDims.start
    rw [dif_pos hm]
    have hsi : D.siIdx (ix4 b i r d) ⟨List.idxOf (1 : Fin 3) D.startIndexMap, List.idxOf_lt_length_iff.2 hm⟩ = ix4 b i r 0 := by
      subst hD
      funext q; refine Fin.ext ?_
      match q with
      | ⟨0, _⟩ => rfl
      | ⟨1, _⟩ => rfl
      | ⟨2, _⟩ => rfl
      | ⟨3, _⟩ => rfl
    rw [hsi]
    subst hD
    rfl
  · have hm : (2 : Fin 3) ∉ D.startIndexMap := by rw [hs]; decide
    rw [GatherDims.batchCoord_eq_zero _ _ _ (by rw [hb]; decide)]
    unfold GatherDims.start
    rw [dif_neg hm]
    have hk : (2 : Fin 3) ∈ D.sKept := (GatherDims.mem_sKept _ _).mpr ⟨by rw [hc]; decide, by rw [hb]; decide⟩
    unfold GatherDims.offCoord
    rw [dif_pos hk]
    subst hD
    simp only [Nat.zero_add, Nat.add_zero]
    rfl

theorem gathered_at (p : FVec Ideal S2x8192x3 .f32) (idx : IVec S2x2048x1 32) (b : Fin 2) (i : Fin 2048) (d : Fin 3) :
    Host.gather gather_S2x8192x3_S2x2048x1_S2x2048x3_2_1_0_0_1_2_113 p idx (ix3 b i d)
      = p (ix3 b ⟨min (idx (ix3 b i 0)).toInt.toNat 8191, by omega⟩ d) := by
  generalize hD : gather_S2x8192x3_S2x2048x1_S2x2048x3_2_1_0_0_1_2_113 = D
  have hs : D.startIndexMap = [1] := by rw [← hD]; rfl
  have hc : D.collapsedSliceDims = [1] := by rw [← hD]; rfl
  have hb : D.operandBatchingDims = [0] := by rw [← hD]; rfl
  unfold Host.gather
  congr 1
  funext a
  refine Fin.ext ?_
  show D.start (ix3 b i d) idx a + D.batchCoord (ix3 b i d) a + D.offCoord (ix3 b i d) a = _
  obtain rfl | rfl | rfl : a = 0 ∨ a = 1 ∨ a = 2 := by
    match a with
    | ⟨0, _⟩ => exact Or.inl rfl
    | ⟨1, _⟩ => exact Or.inr (Or.inl rfl)
    | ⟨2, _⟩ => exact Or.inr (Or.inr rfl)
  · have hm : (0 : Fin 3) ∈ D.operandBatchingDims := by rw [hb]; decide
    rw [GatherDims.start_batching _ _ _ _ hm, GatherDims.offCoord_eq_zero _ _ _ (fun h => ((GatherDims.mem_sKept _ _).mp h).2 hm)]
    unfold GatherDims.batchCoord
    rw [dif_pos hm]
    subst hD
    simp only [Nat.zero_add, Nat.add_zero]
    rfl
  · have hm : (1 : Fin 3) ∈ D.startIndexMap := by rw [hs]; decide
    rw [GatherDims.batchCoord_eq_zero _ _ _ (by rw [hb]; decide),
      GatherDims.offCoord_eq_zero _ _ _ (fun h => ((GatherDims.mem_sKept _ _).mp h).1 (by rw [hc]; decide))]
    unfold GatherDims.start
    rw [dif_pos hm]
    have hsi : D.siIdx (ix3 b i d) ⟨List.idxOf (1 : Fin 3) D.startIndexMap, List.idxOf_lt_length_iff.2 hm⟩ = ix3 b i 0 := by
      subst hD
      funext q; refine Fin.ext ?_
      match q with
      | ⟨0, _⟩ => rfl
      | ⟨1, _⟩ => rfl
      | ⟨2, _⟩ => rfl
    rw [hsi]
    subst hD
    rfl
  · have hm : (2 : Fin 3) ∉ D.startIndexMap := by rw [hs]; decide
    rw [GatherDims.batchCoord_eq_zero _ _ _ (by rw [hb]; decide)]
    unfold GatherDims.start
    rw [dif_neg hm]
    have hk : (2 : Fin 3) ∈ D.sKept := (GatherDims.mem_sKept _ _).mpr ⟨by rw [hc]; decide, by rw [hb]; decide⟩
    unfold GatherDims.offCoord
    rw [dif_pos hk]
    subst hD
    simp only [Nat.zero_add, Nat.add_zero]
    rfl

theorem along_last (b : Fin 2) (i r k : Fin 2048) : (ix3 b i r : S2x2048x2048.Idx).along 2 k = ix3 b i k := by
  funext q
  match q with
  | ⟨0, _⟩ => rfl
  | ⟨1, _⟩ => rfl
  | ⟨2, _⟩ => rfl

/-- The second of two operands sorted together. -/
theorem sorted_snd {s : Shape} {d : ℕ} (hd : d < s.rank) {α β : Type} (cmp : α × β → α × β → BitVec 1) (x : s.Idx → α) (y : s.Idx → β)
    (j : s.Idx) : (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The entry of a given rank among two thousand and forty-eight. -/
def ranked (f : Fin 2048 → EReal) (r : Fin 16) : Fin 2048 := sortedFrom (above f) (Fin.castLE (by decide) r)

theorem before_eq (n : FVec Ideal S2x2048x2048 .f32) (b : Fin 2) (i : Fin 2048) (k k' : Fin 2048) :
    (FloatOps.cmpfTotal (F := Ideal) (φ := .f32) .gt (n (ix3 b i k)) (n (ix3 b i k')) == 1#1) = above (fun k => n (ix3 b i k)) k k' := by
  show (BitVec.ofBool (decide (n (ix3 b i k') < n (ix3 b i k))) == 1#1) = decide (n (ix3 b i k') < n (ix3 b i k))
  cases decide (n (ix3 b i k') < n (ix3 b i k)) <;> rfl

theorem neighbours_at (n : FVec Ideal S2x2048x2048 .f32) (b : Fin 2) (i : Fin 2048) (r : Fin 16) :
    neighbours n (ix3 b i r) = BitVec.ofNat 32 (ranked (fun k => n (ix3 b i k)) r).val := by
  have h2 : 2 < S2x2048x2048.rank := by decide
  unfold neighbours Host.topK
  dsimp only
  refine (extractStridedSlice_apply (fun _ => 0) _ _ (ix3 b i r) (ix3 b i (Fin.castLE (by decide) r : Fin 2048)) (fun q => by
    match q with
    | ⟨0, _⟩ => exact (Nat.zero_add _).symm
    | ⟨1, _⟩ => exact (Nat.zero_add _).symm
    | ⟨2, _⟩ => exact (Nat.zero_add _).symm)).trans ?_
  rw [sorted_snd h2, dif_pos h2]
  generalize hq : sortedFrom _ _ = q
  have e : q = ranked (fun k => n (ix3 b i k)) r := by
    rw [← hq]
    unfold ranked
    refine congrFun (congrArg sortedFrom ?_) _
    funext k k'
    have a (k : Fin 2048) : (ix3 b i (Fin.castLE (by decide) r : Fin 2048) : S2x2048x2048.Idx).along ⟨2, h2⟩ k = ix3 b i k := along_last b i _ k
    refine Eq.trans ?_ (before_eq n b i k k')
    rw [← a k, ← a k']
  rw [← e]
  rfl

theorem mean_at (u v : FVec Ideal S2x2048x48 .f32) :
    mean u v = fun _ => Ideal.ofBits .f32 0x3F800000#32 * Ideal.div (∑ b : Fin 2, ∑ i : Fin 2048, ∑ q : Fin 48,
      (u (ix3 b i q) - v (ix3 b i q)) * (u (ix3 b i q) - v (ix3 b i q))) (Ideal.ofBits .f32 0x48400000#32) := by
  funext j
  pointwise [mean]
  done

theorem offsets_at (p : FVec Ideal S2x2048x3 .f32) (b : Fin 2) (i : Fin 2048) (r : Fin 16) (d : Fin 3) :
    offsets p (ix4 b i r d) = HSub.hSub (α := EReal) (β := EReal) (γ := EReal)
      (p (ix3 b (ranked (fun k => nearness p (ix3 b i k)) r) d)) (p (ix3 b i d)) := by
  have hn := neighbours_at (nearness p) b i r
  generalize ranked (fun k => nearness p (ix3 b i k)) r = q at hn ⊢
  pointwise [offsets, gathered16_at, wrapped16, hn]
  have e : ∀ h, (⟨min (Scalar.select (IntOp.cmpi .slt (BitVec.ofNat 32 q.val) 0#32) (IntOp.addi (BitVec.ofNat 32 q.val) 2048#32)
      (BitVec.ofNat 32 q.val)).toInt.toNat 2047, h⟩ : Fin 2048) = q := fun h => Fin.ext (wrap_lt 2047 _ (Nat.le_of_lt_succ q.is_lt) (by decide) _)
  rw [e]

theorem flat_at (p : FVec Ideal S2x2048x16x3 .f32) (b : Fin 2) (i : Fin 2048) (r : Fin 16) (d : Fin 3) :
    shapeCast S2x2048x48 p shapeCasts_S2x2048x16x3_S2x2048x48 (ix3 b i ⟨3 * r + d, by omega⟩) = p (ix4 b i r d) := by
  pointwise []
  done

end Cert.ReferenceIdeal.Knn

end
-- ==== Proof.RefNearest.lean ====
/- The reference's nearest point: the fold of the lesser pair ends at the first smallest entry. -/
module

public import proofs.«01_k».proof.Proof.RefDist
public import proofs.«01_k».proof.Proof.Stage0

@[expose] public section

set_option maxRecDepth 16384

noncomputable section

namespace Cert.ReferenceIdeal.Knn

open Idealize.ShloMosaic
open Cert.ReferenceIdeal.Gen Cert.Knn

/-- One pair comes no later than another: it is less, or equal at no later a place. -/
def NoLater (a b : EReal × BitVec 32) : Prop := a.1 < b.1 ∨ a.1 = b.1 ∧ a.2.toInt ≤ b.2.toInt

theorem NoLater.refl (a : EReal × BitVec 32) : NoLater a a := Or.inr ⟨rfl, le_refl _⟩
theorem NoLater.trans {a b c : EReal × BitVec 32} (h : NoLater a b) (h' : NoLater b c) : NoLater a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The step keeps one of the pairs, and that one comes no later than either. -/
theorem step_cases (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  obtain ⟨a1, a2⟩ := a
  obtain ⟨b1, b2⟩ := b
  have e : reducer_argmin_f32_i32 (F := Ideal) (a1, a2) (b1, b2)
      = (if a1 < b1 then a1 else b1, if a1 < b1 ∨ a1 = b1 ∧ a2.toInt < b2.toInt then a2 else b2) := by
    have h1 : FloatOps.cmpf (F := Ideal) (φ := .f32) .olt a1 b1 = BitVec.ofBool (decide (a1 < b1)) := rfl
    have h2 : FloatOps.cmpf (F := Ideal) (φ := .f32) .une a1 a1 = BitVec.ofBool (decide (a1 ≠ a1)) := rfl
    have h3 : FloatOps.cmpf (F := Ideal) (φ := .f32) .oeq a1 b1 = BitVec.ofBool (decide (a1 = b1)) := rfl
    have h4 : IntOp.cmpi .slt a2 b2 = BitVec.ofBool (decide (a2.toInt < b2.toInt)) := rfl
    unfold reducer_argmin_f32_i32
    simp only [h1, h2, h3, h4, IntOp.ori, IntOp.andi, Scalar.select]
    by_cases p : a1 < b1 <;> by_cases q : a1 = b1 <;> by_cases r : a2.toInt < b2.toInt <;> simp [p, q, r]
  rw [e]
  by_cases p : a1 < b1
  · simp only [p, if_true, true_or]
    exact ⟨by simp, NoLater.refl _, Or.inl p⟩
  · by_cases q : a1 = b1
    · subst q
      simp only [lt_irrefl, if_false, false_or, true_and]
      by_cases r : a2.toInt < b2.toInt
      · rw [if_pos r]
        exact ⟨Or.inl rfl, NoLater.refl _, Or.inr ⟨rfl, r.le⟩⟩
      · rw [if_neg r]
        exact ⟨Or.inr rfl, Or.inr ⟨rfl, not_lt.mp r⟩, NoLater.refl _⟩
    · have hlt : b1 < a1 := lt_of_le_of_ne (not_lt.mp p) (Ne.symm q)
      simp only [p, q, if_false, false_or, false_and]
      exact ⟨by simp, Or.inl hlt, NoLater.refl _⟩

theorem foldl_least (l : List (EReal × BitVec 32)) : ∀ p : EReal × BitVec 32,
    (l.foldl (reducer_argmin_f32_i32 (F := Ideal)) p = p ∨ l.foldl (reducer_argmin_f32_i32 (F := Ideal)) p ∈ l)
      ∧ NoLater (l.foldl (reducer_argmin_f32_i32 (F := Ideal)) p) p
      ∧ ∀ q ∈ l, NoLater (l.foldl (reducer_argmin_f32_i32 (F := Ideal)) p) q := by
  induction l with
  | nil => exact fun p => ⟨Or.inl rfl, NoLater.refl _, fun q h => absurd h List.not_mem_nil⟩
  | cons a l ih =>
    intro p
    obtain ⟨hc, hp, ha⟩ := step_cases p a
    obtain ⟨h, h', h''⟩ := ih (reducer_argmin_f32_i32 (F := Ideal) p a)
    rw [List.foldl_cons]
    refine ⟨?_, h'.trans hp, fun q hq => ?_⟩
    · rcases h with h | h
      · rw [h]
        rcases hc with hc | hc
        · exact Or.inl hc
        · exact Or.inr (List.mem_cons.mpr (Or.inl hc))
      · exact Or.inr (List.mem_cons_of_mem _ h)
    · rcases List.mem_cons.mp hq with rfl | hq
      · exact h'.trans ha
      · exact h'' q hq

theorem toInt_small (k : Fin 8192) : (BitVec.ofNat 32 k.val).toInt = k.val := by
  rw [BitVec.toInt_ofNat']
  norm_num [Int.bmod]
  omega

/-- A list of just the pairs of the entries with their places folds to the place of the first smallest. -/
theorem foldl_first (f : Fin 8192 → EReal) (l : List (EReal × BitVec 32)) (h1 : ∀ k, (f k, BitVec.ofNat 32 k.val) ∈ l)
    (h2 : ∀ q ∈ l, ∃ k, q = (f k, BitVec.ofNat 32 k.val)) :
    (l.foldl (reducer_argmin_f32_i32 (F := Ideal)) (⊤, 0#32)).2 = BitVec.ofNat 32 (firstMin f).val := by
  obtain ⟨h, h', h''⟩ := foldl_least l (⊤, 0#32)
  have hk : ∃ k, (l.foldl (reducer_argmin_f32_i32 (F := Ideal)) (⊤, 0#32)).2 = BitVec.ofNat 32 k.val
      ∧ ((l.foldl (reducer_argmin_f32_i32 (F := Ideal)) (⊤, 0#32)).1 = f k) := by
    rcases h with h | h
    · refine ⟨0, by rw [h]; rfl, ?_⟩
      rcases h'' _ (h1 0) with g | ⟨g, _⟩
      · rw [h] at g
        exact absurd g not_top_lt
      · exact g
    · obtain ⟨k, e⟩ := h2 _ h
      exact ⟨k, by rw [e], by rw [e]⟩
  obtain ⟨k, e2, e1⟩ := hk
  have hf : FirstMin f k := by
    refine ⟨fun j => ?_, fun j hj => ?_⟩
    · rcases h'' _ (h1 j) with g | ⟨g, _⟩
      · exact e1 ▸ g.le
      · exact (e1 ▸ g : f k = f j).le
    · rcases h'' _ (h1 j) with g | ⟨_, g⟩
      · exact e1 ▸ g
      · rw [e2, toInt_small, toInt_small] at g
        have hj' : j.val < k.val := hj
        omega
  rw [e2, hf.unique (firstMin_spec f)]

/-- What the fold of pairs runs over. -/
theorem mem_fiber {s t : Shape} {axes : List (Fin s.rank)} {α β : Type} (x : s.Idx → α) (y : s.Idx → β) (h : s.ReducesTo axes t) (j : t.Idx)
    (q : α × β) : q ∈ Host.argReduceFiber x y h j ↔ ∃ i, h.drop i = j ∧ q = (x i, y i) := by
  unfold Host.argReduceFiber
  constructor
  · intro hq
    obtain ⟨n, hn, e⟩ := List.mem_map.mp hq
    exact ⟨_, of_decide_eq_true (List.mem_filter.mp hn).2, e.symm⟩
  · rintro ⟨i, hi, e⟩
    refine List.mem_map.mpr ⟨s.rowMajor i, List.mem_filter.mpr ⟨List.mem_finRange _, ?_⟩, ?_⟩
    · rw [Equiv.symm_apply_apply]
      exact decide_eq_true hi
    · rw [Equiv.symm_apply_apply]
      exact e.symm

end Cert.ReferenceIdeal.Knn

end
-- ==== Proof.RefMatch.lean ====
/- The reference's matched points. -/
module

public import proofs.«01_k».proof.Proof.RefNearest

@[expose] public section

set_option maxRecDepth 16384

noncomputable section

namespace Cert.ReferenceIdeal.Knn

open Idealize.ShloMosaic
open Cert.ReferenceIdeal.Gen Cert.Knn

theorem dropped (x : S2x2048x8192.Idx) (b : Fin 2) (i : Fin 2048) :
    reducesTo_S2x2048x8192_S2x2048_d2.drop x = ix2 b i ↔ ∃ k, x = ix3 b i k := by
  have e0 : reducesTo_S2x2048x8192_S2x2048_d2.drop x 0 = x 0 := rfl
  have e1 : reducesTo_S2x2048x8192_S2x2048_d2.drop x 1 = x 1 := rfl
  constructor
  · intro h
    refine ⟨x 2, ?_⟩
    have h0 : x 0 = b := e0.symm.trans (congrFun h 0)
    have h1 : x 1 = i := e1.symm.trans (congrFun h 1)
    funext q
    match q with
    | ⟨0, _⟩ => exact h0
    | ⟨1, _⟩ => exact h1
    | ⟨2, _⟩ => rfl
  · rintro ⟨k, rfl⟩
    funext q
    match q with
    | ⟨0, _⟩ => rfl
    | ⟨1, _⟩ => rfl

theorem top_at (h : 0 < S_.numel) : (constant S_ .f32 0x7F800000#32 : FVec Ideal S_ .f32) (Shape.Idx.first h) = (⊤ : EReal) := by
  show Ideal.ofBits .f32 0x7F800000#32 = ⊤
  simp [Ideal.ofBits, Ideal.ieee]

theorem zero_at (h : 0 < S_.numel) : (constantI S_ 32 0#32) (Shape.Idx.first h) = 0#32 := rfl

/-- The fold at one result entry. -/
theorem reduced_at (f : Fin 8192 → EReal) {s t u : Shape} {axes : List (Fin s.rank)} (x : FVec Ideal s .f32) (y : IVec s 32)
    (ix : FVec Ideal u .f32) (iy : IVec u 32) (h : s.ReducesTo axes t) (hu : 0 < u.numel) (j : t.Idx)
    (e : Fin 8192 → s.Idx) (he : ∀ i, h.drop i = j ↔ ∃ k, i = e k) (hx : ∀ k, x (e k) = f k) (hy : ∀ k, y (e k) = BitVec.ofNat 32 k.val)
    (h0 : ix (Shape.Idx.first hu) = (⊤ : EReal)) (h1 : iy (Shape.Idx.first hu) = 0#32) :
    (Host.argReduce reducer_argmin_f32_i32 x y ix iy h hu j).2 = BitVec.ofNat 32 (firstMin f).val := by
  rw [Ideal.argReduce_eq_reduce2, Host.reduce2_eq_foldl_fiber, h0, h1]
  refine foldl_first f _ (fun k => ?_) (fun q hq => ?_)
  · exact (mem_fiber _ _ _ _ _).mpr ⟨e k, (he _).mpr ⟨k, rfl⟩, by rw [hx, hy]⟩
  · obtain ⟨i, hi, e'⟩ := (mem_fiber _ _ _ _ _).mp hq
    obtain ⟨k, rfl⟩ := (he i).mp hi
    exact ⟨k, by rw [e', hx, hy]⟩

theorem nearest_eq (d : FVec Ideal S2x2048x8192 .f32) : nearest d = fun j =>
    (Host.argReduce reducer_argmin_f32_i32 d (iotaInDim S2x2048x8192 32 2) (constant S_ .f32 0x7F800000#32) (constantI S_ 32 0#32)
      reducesTo_S2x2048x8192_S2x2048_d2 h_S_ j).2 := rfl

theorem nearest_at (d : FVec Ideal S2x2048x8192 .f32) (b : Fin 2) (i : Fin 2048) :
    nearest d (ix2 b i) = BitVec.ofNat 32 (firstMin fun k => d (ix3 b i k)).val :=
  (congrFun (nearest_eq d) _).trans
    (reduced_at (fun k => d (ix3 b i k)) d (iotaInDim S2x2048x8192 32 2) (constant S_ .f32 0x7F800000#32) (constantI S_ 32 0#32)
      reducesTo_S2x2048x8192_S2x2048_d2 h_S_ (ix2 b i) (fun k => ix3 b i k) (fun x => dropped x b i) (fun k => rfl) (fun k => rfl)
      (top_at _) (zero_at _))

theorem matched_at (x : FVec Ideal S2x8192x3 .f32) (y : FVec Ideal S2x2048x3 .f32) (b : Fin 2) (i : Fin 2048) (d : Fin 3) :
    matched x y (ix3 b i d) = Cert.KernelIdeal.Knn.nearestPoint (fun b i d => y (ix3 b i d)) (fun b k d => x (ix3 b k d)) b i d := by
  unfold Cert.KernelIdeal.Knn.nearestPoint
  have e : (fun k => Cert.KernelIdeal.Knn.sqDist (fun d => y (ix3 b i d)) (fun d => x (ix3 b k d))) = fun k => dist x y (ix3 b i k) :=
    funext fun k => (dist_at x y b i k).symm
  rw [e]
  have hn := nearest_at (dist x y) b i
  generalize (firstMin fun k => dist x y (ix3 b i k)) = q at hn ⊢
  pointwise [matched, gathered_at, wrapped, hn]
  have e : ∀ h, (⟨min (Scalar.select (IntOp.cmpi .slt (BitVec.ofNat 32 q.val) 0#32) (IntOp.addi (BitVec.ofNat 32 q.val) 8192#32)
      (BitVec.ofNat 32 q.val)).toInt.toNat 8191, h⟩ : Fin 8192) = q := fun h => Fin.ext (wrap_lt 8191 _ (Nat.le_of_lt_succ q.is_lt) (by decide) _)
  rw [e]

end Cert.ReferenceIdeal.Knn

end
-- ==== Proof.RefValue.lean ====
/- The reference's result on finite clouds: the same sum the kernel forms. -/
module

public import proofs.«01_k».proof.Proof.RefMatch
public import proofs.«01_k».proof.Proof.Stage1

@[expose] public section

set_option maxRecDepth 16384

noncomputable section

namespace Cert.ReferenceIdeal.Knn

open Idealize.ShloMosaic
open Cert.ReferenceIdeal.Gen Cert.Knn
open Cert.KernelIdeal.Knn (rowOf pointSum total nearestPoint)

theorem one_eq : Ideal.ofBits .f32 0x3F800000#32 = 1 := by
  simp [Ideal.ofBits, Ideal.ieee, -EReal.coe_mul]; norm_num

theorem two_eq : Ideal.ofBits .f32 1073741824#32 = ((2 : ℝ) : EReal) := by
  simp [Ideal.ofBits, Ideal.ieee, -EReal.coe_mul]; norm_num

/-- Between finite points the nearness is a number. -/
theorem nearness_ne_bot (a b : Fin 3 → EReal) (ha : ∀ d, a d ≠ ⊤ ∧ a d ≠ ⊥) (hb : ∀ d, b d ≠ ⊤ ∧ b d ≠ ⊥) : Cert.Knn.nearness a b ≠ ⊥ := by
  obtain ⟨a', rfl⟩ : ∃ a' : Fin 3 → ℝ, a = fun d => (a' d : EReal) :=
    ⟨fun d => (a d).toReal, funext fun d => (EReal.coe_toReal (ha d).1 (ha d).2).symm⟩
  obtain ⟨b', rfl⟩ : ∃ b' : Fin 3 → ℝ, b = fun d => (b' d : EReal) :=
    ⟨fun d => (b d).toReal, funext fun d => (EReal.coe_toReal (hb d).1 (hb d).2).symm⟩
  unfold Cert.Knn.nearness sq3
  rw [two_eq, Fin.sum_univ_three]
  norm_cast
  exact EReal.coe_ne_bot _

theorem ranked_eq (f : Fin 2048 → EReal) (hf : ∀ k, f k ≠ ⊥) (r : Fin 16) : ranked f r = picked f r.val :=
  (picked_eq_sorted f hf (Fin.castLE (by decide) r)).symm

/-- The offsets of a finite cloud. -/
theorem offsets_eq (p : FVec Ideal S2x2048x3 .f32) (P : Fin 2 → Fin 2048 → Fin 3 → EReal) (hp : ∀ b i d, p (ix3 b i d) = P b i d)
    (hP : ∀ b i d, P b i d ≠ ⊤ ∧ P b i d ≠ ⊥) (b : Fin 2) (i : Fin 2048) (r : Fin 16) (d : Fin 3) :
    offsets p (ix4 b i r d) = P b (picked (fun k => Cert.Knn.nearness (P b i) (P b k)) r.val) d - P b i d := by
  have e : (fun k => nearness p (ix3 b i k)) = fun k => Cert.Knn.nearness (P b i) (P b k) := by
    funext k
    rw [nearness_at]
    exact congr (congrArg _ (funext fun d => hp b i d)) (funext fun d => hp b k d)
  rw [offsets_at, e, ranked_eq _ (fun k => nearness_ne_bot _ _ (hP b i) (hP b k)), hp, hp]

theorem sum48 (f : Fin 48 → EReal) : ∑ q : Fin 48, f q = ∑ r : Fin 16, ∑ d : Fin 3, f ⟨3 * r + d, by omega⟩ := by
  rw [← Fintype.sum_prod_type' (fun (r : Fin 16) (d : Fin 3) => f ⟨3 * r + d, by omega⟩)]
  refine (Fintype.sum_equiv (finProdFinEquiv : Fin 16 × Fin 3 ≃ Fin 48) _ _ fun x => ?_).symm
  refine congrArg f (Fin.ext ?_)
  show 3 * x.1.val + x.2.val = x.2.val + 3 * x.1.val
  omega

theorem sum_halves (g : Fin 2048 → EReal) :
    ∑ i : Fin 2048, g i = (∑ i : Fin 1024, g (rowOf 0 (by decide) i)) + ∑ i : Fin 1024, g (rowOf 1 (by decide) i) := by
  refine (Fin.sum_univ_add (a := 1024) (b := 1024) g).trans ?_
  refine congrArg₂ (· + ·) (Finset.sum_congr rfl fun i _ => congrArg g (Fin.ext ?_)) (Finset.sum_congr rfl fun i _ => congrArg g (Fin.ext ?_))
  · simp [rowOf]
  · simp [rowOf, add_comm]

theorem total_eq (P Q : Fin 2 → Fin 2048 → Fin 3 → EReal) :
    total P Q = ∑ b : Fin 2, ∑ i : Fin 2048, ∑ r : Fin 16, part (P b) (Q b) i r.val := by
  have e (b : Fin 2) (i : Fin 2048) : ∑ r : Fin 16, part (P b) (Q b) i r.val = ∑ r ∈ Finset.range 16, part (P b) (Q b) i r :=
    Fin.sum_univ_eq_sum_range (fun r => part (P b) (Q b) i r) 16
  simp only [e]
  rw [Fin.sum_univ_two, sum_halves, sum_halves]
  unfold total
  rw [Finset.sum_range_succ, Finset.sum_range_succ, Finset.sum_range_succ, Finset.sum_range_succ, Finset.sum_range_zero, zero_add, add_assoc]
  rfl

section
variable (x : FVec Ideal S2x8192x3 .f32) (y : FVec Ideal S2x2048x3 .f32)
  (hx : ∀ b k d, x (ix3 b k d) ≠ ⊤ ∧ x (ix3 b k d) ≠ ⊥) (hy : ∀ b k d, y (ix3 b k d) ≠ ⊤ ∧ y (ix3 b k d) ≠ ⊥)

include hx hy in
/-- The reference's result. -/
theorem value : loss x y = fun _ => Ideal.div (total (fun b k d => y (ix3 b k d))
    (nearestPoint (fun b k d => y (ix3 b k d)) (fun b k d => x (ix3 b k d)))) (Ideal.ofBits .f32 0x48400000#32) := by
  unfold loss
  rw [mean_at, one_eq, total_eq]
  funext _
  rw [one_mul]
  refine congrArg (fun s => Ideal.div s _) (Finset.sum_congr rfl fun b _ => Finset.sum_congr rfl fun i _ => ?_)
  rw [sum48]
  refine Finset.sum_congr rfl fun r _ => ?_
  unfold part
  refine Finset.sum_congr rfl fun d _ => ?_
  rw [flat_at, flat_at, offsets_eq (matched x y) _ (fun b i d => matched_at x y b i d) (fun b i d => hx b _ d),
    offsets_eq y (fun b k d => y (ix3 b k d)) (fun _ _ _ => rfl) hy]
end

end Cert.ReferenceIdeal.Knn

end
-- ==== Proof.lean ====
/- The proof of the certificate: the frames and the named constants from the run modules, the value equation from the
   value modules. -/
module

public import proofs.«01_k».proof.Defs
public import proofs.«01_k».proof.Proof.KernelRun
public import proofs.«01_k».proof.Proof.KernelIdealRun
public import proofs.«01_k».proof.Proof.ReferenceRun
public import proofs.«01_k».proof.Proof.KernelValue
public import proofs.«01_k».proof.Proof.RefValue
public import proofs.«01_k».proof.Proof.Gen.Pre_finite
public import Idealize.ShloMosaic.Adequacy
public import Idealize.ShloMosaic.Init

@[expose] public section

noncomputable section

namespace Cert.Proof

open Idealize.ShloMosaic Idealize.SL.Sem

theorem preserves : Cert.preserves_Kernel_KernelIdeal :=
  ⟨IdealRules.named_const.statement Cert.KernelIdeal.κ "big" .f32 0x7F61B1E6#32 ⊤ rfl,
   IdealRules.named_const.statement Cert.KernelIdeal.κ "neg_big" .f32 0xFF61B1E6#32 ⊥ rfl⟩

theorem reference_frame : Cert.quiescent_ReferenceIdeal (hReferenceIdeal := Cert.ReferenceIdeal.Gen.facts) := fun m g _ =>
  θ_run_mono (Cert.ReferenceIdeal.Knn.run (F := Ideal) m g)
    fun _ h => ⟨fun c => (h.1 c).2, h.2⟩

theorem reference_frame_finite : Cert.quiescent_ReferenceIdeal_pre_finite (hReferenceIdeal := Cert.ReferenceIdeal.Gen.facts)
    (hPre_finite := Cert.Pre_finite.Gen.facts) := fun m g _ =>
  θ_run_mono (Cert.ReferenceIdeal.Knn.run (F := Ideal) m g)
    fun _ h => ⟨fun c => (h.1 c).2, h.2⟩

/-- An entry the precondition passes is a number. -/
theorem finite_of (x : EReal) (h : FloatOps.cmpf (F := Ideal) (φ := .f32) .olt (max x (-x)) (Ideal.ofBits .f32 0x7F800000#32) = 1#1) :
    x ≠ ⊤ ∧ x ≠ ⊥ := by
  have ht : Ideal.ofBits .f32 0x7F800000#32 = ⊤ := by simp [Ideal.ofBits, Ideal.ieee]
  rw [ht] at h
  have hlt : max x (-x) < ⊤ := by
    by_contra hn
    have h0 : FloatOps.cmpf (F := Ideal) (φ := .f32) .olt (max x (-x)) (⊤ : EReal) = BitVec.ofBool (decide (max x (-x) < ⊤)) := rfl
    rw [h0, decide_eq_false hn] at h
    exact absurd h (by decide)
  refine ⟨fun e => ?_, fun e => ?_⟩
  · rw [e] at hlt
    exact absurd ((le_max_left _ _).trans_lt hlt) (lt_irrefl _)
  · rw [e] at hlt
    have : (⊤ : EReal) < ⊤ := by simpa using hlt
    exact absurd this (lt_irrefl _)

section
attribute [local instance] Cert.Pre_finite.Gen.facts

variable {m : (ℓ : Loc Cert.KernelIdeal.nD Cert.KernelIdeal.τ Cert.KernelIdeal.sig) → Buf (Elt Ideal) ℓ}

theorem others_finite (h : Cert.Pre_KernelIdeal_finite m) (c : Dev Cert.KernelIdeal.nD) (b : Fin 2) (k : Fin 8192) (d : Fin 3) :
    Cert.KernelIdeal.Knn.others m c b k d ≠ ⊤ ∧ Cert.KernelIdeal.Knn.others m c b k d ≠ ⊥ :=
  finite_of _ (congrFun (h c).1 (ix3 b k d))

theorem points_finite (h : Cert.Pre_KernelIdeal_finite m) (c : Dev Cert.KernelIdeal.nD) (b : Fin 2) (k : Fin 2048) (d : Fin 3) :
    Cert.KernelIdeal.Knn.points m c b k d ≠ ⊤ ∧ Cert.KernelIdeal.Knn.points m c b k d ≠ ⊥ :=
  finite_of _ (congrFun (h c).2 (ix3 b k d))
end

/-- On finite clouds the kernel and the reference end at the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hx := others_finite hpre
  have hy := points_finite hpre
  refine ⟨fun c => fun _ => Ideal.div (Cert.KernelIdeal.Knn.total (Cert.KernelIdeal.Knn.points m c) (Cert.KernelIdeal.Knn.moved m c))
    (Ideal.ofBits .f32 0x48400000#32), ?_, ?_⟩
  · refine θ_run_mono (Cert.KernelIdeal.Knn.ends (F := Ideal) m g) fun r h c => ⟨?_, (h.1 c).2⟩
    refine (h.1 c).1.trans ((Cert.KernelIdeal.Knn.value m g c (hx c) (hy c)).trans ?_)
    rw [Cert.ReferenceIdeal.Knn.one_eq, one_mul]
  · refine θ_run_mono (Cert.ReferenceIdeal.Knn.run (F := Ideal) m' g') fun r h c => ⟨?_, (h.1 c).2⟩
    refine (h.1 c).1.trans ?_
    rw [(hagree c).1, (hagree c).2]
    exact Cert.ReferenceIdeal.Knn.value _ _ (hx c) (hy c)

/-- The certificate. -/
theorem claim : Cert.Claim :=
  ⟨Cert.Kernel.Gen.facts, Cert.KernelIdeal.Gen.facts, Cert.ReferenceIdeal.Gen.facts, Cert.Pre_finite.Gen.facts,
   fun m g _ => Cert.Kernel.Knn.frame m g, fun m g _ => Cert.KernelIdeal.Knn.frame m g, fun m g _ => Cert.KernelIdeal.Knn.frame m g,
   reference_frame, reference_frame_finite, preserves, algebraic⟩

end Cert.Proof

end
